-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_are_numbers_KernelIdeal [hPre_scores_are_numbers_KernelIdeal : Cert.Pre_scores_are_numbers_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_are_numbers_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_are_numbers_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_are_numbers_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_are_numbers_ReferenceIdeal [hPre_scores_are_numbers_ReferenceIdeal : Cert.Pre_scores_are_numbers_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_are_numbers_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_are_numbers_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_are_numbers_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_are_numbers_KernelIdeal [hKernelIdeal : Cert.KernelIdeal.Facts] [hPre_scores_are_numbers_KernelIdeal : Cert.Pre_scores_are_numbers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_are_numbers_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_are_numbers_ReferenceIdeal [hReferenceIdeal : Cert.ReferenceIdeal.Facts] [hPre_scores_are_numbers_ReferenceIdeal : Cert.Pre_scores_are_numbers_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_are_numbers_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scores_are_numbers_KernelIdeal [hKernelIdeal : Cert.KernelIdeal.Facts] [hReferenceIdeal : Cert.ReferenceIdeal.Facts] [hPre_scores_are_numbers_KernelIdeal : Cert.Pre_scores_are_numbers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_are_numbers_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scores_are_numbers_KernelIdeal : Cert.Pre_scores_are_numbers_KernelIdeal.Facts) (hPre_scores_are_numbers_ReferenceIdeal : Cert.Pre_scores_are_numbers_ReferenceIdeal.Facts),
    quiescent_Kernel (hKernel := hKernel)
    ∧ quiescent_KernelIdeal (hKernelIdeal := hKernelIdeal)
    ∧ quiescent_KernelIdeal_pre_scores_are_numbers_KernelIdeal (hKernelIdeal := hKernelIdeal) (hPre_scores_are_numbers_KernelIdeal := hPre_scores_are_numbers_KernelIdeal)
    ∧ quiescent_ReferenceIdeal (hReferenceIdeal := hReferenceIdeal)
    ∧ quiescent_ReferenceIdeal_pre_scores_are_numbers_ReferenceIdeal (hReferenceIdeal := hReferenceIdeal) (hPre_scores_are_numbers_ReferenceIdeal := hPre_scores_are_numbers_ReferenceIdeal)
    ∧ preserves_Kernel_KernelIdeal
    ∧ algebraic_KernelIdeal_ReferenceIdeal_pre_scores_are_numbers_KernelIdeal (hKernelIdeal := hKernelIdeal) (hReferenceIdeal := hReferenceIdeal) (hPre_scores_are_numbers_KernelIdeal := hPre_scores_are_numbers_KernelIdeal)
-- ==== Pre_scores_are_numbers_KernelIdeal.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S8x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Pre_scores_are_numbers_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S128x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Kernel.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S2048x1024 : Shape := ⟨2, ![2048, 1024]⟩
abbrev S15x128x1024 : Shape := ⟨3, ![15, 128, 1024]⟩
abbrev S1x128x1024 : Shape := ⟨3, ![1, 128, 1024]⟩
abbrev S15 : Shape := ⟨1, ![15]⟩
abbrev S_ : Shape := ⟨0, ![]⟩
abbrev S2048x128 : Shape := ⟨2, ![2048, 128]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x512x1024 : Shape := ⟨3, ![1, 512, 1024]⟩
abbrev S512x1024 : Shape := ⟨2, ![512, 1024]⟩
abbrev S128x1024 : Shape := ⟨2, ![128, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S8x512x1024, .bf16⟩
  | .hbm, ⟨4, _⟩ => ⟨S2048x1024, .f32⟩
  | .local _ .vmem, ⟨0, _⟩ => ⟨S2048x512, .bf16⟩
  | .local _ .vmem, ⟨1, _⟩ => ⟨S512x128, .bf16⟩
  | .local _ .vmem, ⟨2, _⟩ => ⟨S2048x2, .i32⟩
  | .local _ .vmem, ⟨3, _⟩ => ⟨S8x512x1024, .bf16⟩
  | .local _ .vmem, ⟨4, _⟩ => ⟨S2048x1024, .f32⟩
  | .local _ .vmem, ⟨5, _⟩ => ⟨S2048x1024, .f32⟩
  | .local _ .vmem, ⟨6, _⟩ => ⟨S15x128x1024, .bf16⟩
  | .local _ .vmem, ⟨7, _⟩ => ⟨S1x128x1024, .bf16⟩
  | .local _ .vmem, ⟨8, _⟩ => ⟨S2048x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_79 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v169 : BitVec 32 := Scalar.subi v2 c0_i32_79
  let c16_i32_80 : BitVec 32 := 16#32
  let v170 : BitVec 32 := Scalar.addi v169 c16_i32_80
  let c16_i32_81 : BitVec 32 := 16#32
  let v171 : BitVec 32 := Scalar.remsi v170 c16_i32_81
  let c128_i32 : BitVec 32 := 128#32
  let v172 : BitVec 32 := Scalar.muli v171 c128_i32
  let v173 : Index := Scalar.indexCast v172
  let c0_82 : Index := 0#32
  ![v173.toNat, 0]
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_90 : BitVec 32 := 1#32
  let v179 : BitVec 32 := Scalar.muli v7 c1_i32_90
  let v180 : BitVec 32 := Scalar.addi c0_i32_91 v179
  v180.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_130 : BitVec 32 := 1#32
  let v217 : BitVec 32 := Scalar.muli v7 c1_i32_130
  let v218 : BitVec 32 := Scalar.addi c0_i32_131 v217
  v218.toNat
def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_170 : BitVec 32 := 1#32
  let v255 : BitVec 32 := Scalar.muli v7 c1_i32_170
  let v256 : BitVec 32 := Scalar.addi c0_i32_171 v255
  v256.toNat
def k0_dev6 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_209 : BitVec 32 := 1#32
  let v293 : BitVec 32 := Scalar.muli v7 c1_i32_209
  let v294 : BitVec 32 := Scalar.addi c0_i32_210 v293
  v294.toNat
def k0_dev7 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_248 : BitVec 32 := 1#32
  let v331 : BitVec 32 := Scalar.muli v7 c1_i32_248
  let v332 : BitVec 32 := Scalar.addi c0_i32_249 v331
  v332.toNat
def k0_dev8 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_287 : BitVec 32 := 1#32
  let v369 : BitVec 32 := Scalar.muli v7 c1_i32_287
  let v370 : BitVec 32 := Scalar.addi c0_i32_288 v369
  v370.toNat
def k0_dev9 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_326 : BitVec 32 := 1#32
  let v407 : BitVec 32 := Scalar.muli v7 c1_i32_326
  let v408 : BitVec 32 := Scalar.addi c0_i32_327 v407
  v408.toNat
def k0_dev10 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_365 : BitVec 32 := 1#32
  let v445 : BitVec 32 := Scalar.muli v7 c1_i32_365
  let v446 : BitVec 32 := Scalar.addi c0_i32_366 v445
  v446.toNat
def k0_dev11 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_405 : BitVec 32 := 1#32
  let v483 : BitVec 32 := Scalar.muli v7 c1_i32_405
  let v484 : BitVec 32 := Scalar.addi c0_i32_406 v483
  v484.toNat
def k0_dev12 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_443 : BitVec 32 := 1#32
  let v521 : BitVec 32 := Scalar.muli v7 c1_i32_443
  let v522 : BitVec 32 := Scalar.addi c0_i32_444 v521
  v522.toNat
def k0_dev13 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_481 : BitVec 32 := 1#32
  let v559 : BitVec 32 := Scalar.muli v7 c1_i32_481
  let v560 : BitVec 32 := Scalar.addi c0_i32_482 v559
  v560.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_519 : BitVec 32 := 1#32
  let v597 : BitVec 32 := Scalar.muli v7 c1_i32_519
  let v598 : BitVec 32 := Scalar.addi c0_i32_520 v597
  v598.toNat
def k0_dev15 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_557 : BitVec 32 := 1#32
  let v635 : BitVec 32 := Scalar.muli v7 c1_i32_557
  let v636 : BitVec 32 := Scalar.addi c0_i32_558 v635
  v636.toNat
def k0_dev16 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_595 : BitVec 32 := 1#32
  let v673 : BitVec 32 := Scalar.muli v7 c1_i32_595
  let v674 : BitVec 32 := Scalar.addi c0_i32_596 v673
  v674.toNat
def k0_dev17 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_633 : BitVec 32 := 1#32
  let v711 : BitVec 32 := Scalar.muli v7 c1_i32_633
  let v712 : BitVec 32 := Scalar.addi c0_i32_634 v711
  v712.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_658 : BitVec 32 := 1#32
  let v735 : BitVec 32 := Scalar.addi v2 c1_i32_658
  let c16_i32_659 : BitVec 32 := 16#32
  let v736 : BitVec 32 := Scalar.remsi v735 c16_i32_659
  let c128_i32_662 : BitVec 32 := 128#32
  let v740 : BitVec 32 := Scalar.muli v736 c128_i32_662
  let v741 : Index := Scalar.indexCast v740
  let c0_663 : Index := 0#32
  ![v741.toNat, 0]
def k0_off3 (d0 : Dev nD) (c0_i32_667 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_666 : BitVec 32 := 1#32
  let v750 : BitVec 32 := Scalar.addi v2 c1_i32_666
  let v751 : BitVec 32 := Scalar.subi v750 c0_i32_667
  let c16_i32_668 : BitVec 32 := 16#32
  let v752 : BitVec 32 := Scalar.addi v751 c16_i32_668
  let c16_i32_669 : BitVec 32 := 16#32
  let v753 : BitVec 32 := Scalar.remsi v752 c16_i32_669
  let c128_i32_671 : BitVec 32 := 128#32
  let v755 : BitVec 32 := Scalar.muli v753 c128_i32_671
  let c0_i32_676 : BitVec 32 := 0#32
  ![v755.toNat, 0]
def k0_dev18 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_674 : BitVec 32 := 1#32
  let v756 : BitVec 32 := Scalar.muli v7 c1_i32_674
  let v757 : BitVec 32 := Scalar.addi c0_i32_675 v756
  v757.toNat
def k0_dev19 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_697 : BitVec 32 := 1#32
  let v780 : BitVec 32 := Scalar.muli v7 c1_i32_697
  let v781 : BitVec 32 := Scalar.addi c0_i32_698 v780
  v781.toNat
def k0_dev20 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_720 : BitVec 32 := 1#32
  let v804 : BitVec 32 := Scalar.muli v7 c1_i32_720
  let v805 : BitVec 32 := Scalar.addi c0_i32_721 v804
  v805.toNat
def k0_dev21 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_743 : BitVec 32 := 1#32
  let v828 : BitVec 32 := Scalar.muli v7 c1_i32_743
  let v829 : BitVec 32 := Scalar.addi c0_i32_744 v828
  v829.toNat
def k0_dev22 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_766 : BitVec 32 := 1#32
  let v852 : BitVec 32 := Scalar.muli v7 c1_i32_766
  let v853 : BitVec 32 := Scalar.addi c0_i32_767 v852
  v853.toNat
def k0_dev23 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_789 : BitVec 32 := 1#32
  let v876 : BitVec 32 := Scalar.muli v7 c1_i32_789
  let v877 : BitVec 32 := Scalar.addi c0_i32_790 v876
  v877.toNat
def k0_dev24 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_812 : BitVec 32 := 1#32
  let v900 : BitVec 32 := Scalar.muli v7 c1_i32_812
  let v901 : BitVec 32 := Scalar.addi c0_i32_813 v900
  v901.toNat
def k0_dev25 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_835 : BitVec 32 := 1#32
  let v924 : BitVec 32 := Scalar.muli v7 c1_i32_835
  let v925 : BitVec 32 := Scalar.addi c0_i32_836 v924
  v925.toNat
def k0_dev26 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_858 : BitVec 32 := 1#32
  let v948 : BitVec 32 := Scalar.muli v7 c1_i32_858
  let v949 : BitVec 32 := Scalar.addi c0_i32_859 v948
  v949.toNat
def k0_dev27 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_881 : BitVec 32 := 1#32
  let v972 : BitVec 32 := Scalar.muli v7 c1_i32_881
  let v973 : BitVec 32 := Scalar.addi c0_i32_882 v972
  v973.toNat
def k0_dev28 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_904 : BitVec 32 := 1#32
  let v996 : BitVec 32 := Scalar.muli v7 c1_i32_904
  let v997 : BitVec 32 := Scalar.addi c0_i32_905 v996
  v997.toNat
def k0_dev29 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_927 : BitVec 32 := 1#32
  let v1020 : BitVec 32 := Scalar.muli v7 c1_i32_927
  let v1021 : BitVec 32 := Scalar.addi c0_i32_928 v1020
  v1021.toNat
def k0_dev30 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_950 : BitVec 32 := 1#32
  let v1044 : BitVec 32 := Scalar.muli v7 c1_i32_950
  let v1045 : BitVec 32 := Scalar.addi c0_i32_951 v1044
  v1045.toNat
def k0_dev31 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_973 : BitVec 32 := 1#32
  let v1068 : BitVec 32 := Scalar.muli v7 c1_i32_973
  let v1069 : BitVec 32 := Scalar.addi c0_i32_974 v1068
  v1069.toNat
def k0_dev32 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_996 : BitVec 32 := 1#32
  let v1092 : BitVec 32 := Scalar.muli v7 c1_i32_996
  let v1093 : BitVec 32 := Scalar.addi c0_i32_997 v1092
  v1093.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S128x512x1024, .bf16⟩
  | .hbm, ⟨4, _⟩ => ⟨S2048x512, .f32⟩
  | .hbm, ⟨5, _⟩ => ⟨S512x128, .f32⟩
  | .hbm, ⟨6, _⟩ => ⟨S2048x128, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x128, .f32⟩
  | .hbm, ⟨17, _⟩ => ⟨S2048x128, .f32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S2048x1, .i32⟩
  | .hbm, ⟨39, _⟩ => ⟨S2048x2, .i32⟩
  | .hbm, ⟨40, _⟩ => ⟨S2048, .f32⟩
  | .hbm, ⟨41, _⟩ => ⟨S2048x1, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048x1, .i32⟩
  | .hbm, ⟨58, _⟩ => ⟨S2048x2, .i32⟩
  | .hbm, ⟨59, _⟩ => ⟨S2048, .f32⟩
  | .hbm, ⟨60, _⟩ => ⟨S2048x1, .f32⟩
  | .hbm, ⟨61, _⟩ => ⟨S2048x1, .f32⟩
  | .hbm, ⟨62, _⟩ => ⟨S128x512x1024, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x512x1024, .f32⟩
  | .hbm, ⟨72, _⟩ => ⟨S2048x1024, .f32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i32⟩
  | .hbm, ⟨80, _⟩ => ⟨S2048x1, .i32⟩
  | .hbm, ⟨81, _⟩ => ⟨S2048x512x1024, .f32⟩
  | .hbm, ⟨82, _⟩ => ⟨S2048x1024, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_10 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Ideal.Protocol.lean ====
/-
# The ring's protocol

Sixteen devices stand in a ring; `nxt c` is the device to the right of `c`, `prv c` the one to its left. A device sends
to its right only. It makes thirty hops: hops 0..14 are the reduce-scatter, hops 15..29 the all-gather.

Who waits, who signals, what is handed over:

* BARRIER semaphore of device `d` (waited once, for 2). `nxt d` signals one unit and hands over every landing place that
  device `d`'s hops will write: `nxt d`'s fifteen slots of the reduce-scatter buffer and fifteen of its sixteen chunks of
  the all-gather buffer (all but the chunk it finishes itself), at any contents. `prv d` signals one unit and hands over
  nothing.
* SEND semaphore of hop `h` on `d` (waited once, for one chunk's credit). Paid by `d`'s own transfer when the source has
  been read; it hands the source back with its contents.
* RECEIVE semaphore of hop `h` on `d` (waited once, for one chunk's credit). Paid by `prv d`'s transfer when it has landed;
  it hands over the landing place holding exactly what `prv d` sent.

Contents: in hop 0 a device sends its own partial sum of chunk `d`; in hop `s + 1 < 15` what landed in hop `s` plus its own
partial sum of chunk `d - (s + 1)`; after hop 14 the chunk that landed plus its own partial sum of chunk `d + 1` is the
finished chunk `d + 1`; in hops 15.. it sends on finished chunks, its own first.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ReshapeSlab
public import Idealize.ShloMosaic.Lib.Tactic

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device to the right. -/
def nxt (c : Dev nD) : Dev nD := ⟨(c.val + 1) % 16, Nat.mod_lt _ (by decide)⟩
set_option backward.proofsInPublic true in
/-- The device to the left. -/
def prv (c : Dev nD) : Dev nD := ⟨(c.val + 15) % 16, Nat.mod_lt _ (by decide)⟩
set_option backward.proofsInPublic true in
/-- The device `s` places to the left (`s ≤ 16`); also the chunk that many places down. -/
def back (s : ℕ) (c : Dev nD) : Dev nD := ⟨(c.val + 16 - s) % 16, Nat.mod_lt _ (by decide)⟩

theorem prv_nxt (c : Dev nD) : prv (nxt c) = c := by revert c; decide
theorem nxt_prv (c : Dev nD) : nxt (prv c) = c := by revert c; decide
theorem back_one_nxt (s : ℕ) (c : Dev nD) (hs : s < 16) : back (s + 1) (nxt c) = back s c := by
  have := c.isLt
  apply Fin.ext; simp only [back, nxt]; omega

/-- The ring's rotation by one to the right. -/
def ring : Dev nD ≃ Dev nD := ⟨nxt, prv, prv_nxt, nxt_prv⟩

/-! ## The memrefs -/

abbrev xM : Memref sig .tc .vmem S2048x512 .bf16 := Memref.whole cc0_stg0_0
abbrev rwM : Memref sig .tc .vmem S512x128 .bf16 := Memref.whole cc0_stg1_0
abbrev idxM : Memref sig .tc .vmem S2048x2 .i32 := Memref.whole cc0_stg2_0
abbrev wM : Memref sig .tc .vmem S8x512x1024 .bf16 := Memref.whole cc0_stg3_0
abbrev oM : Memref sig .tc .vmem S2048x1024 .f32 := Memref.whole cc0_stg4_0
abbrev accM : Memref sig .tc .vmem S2048x1024 .f32 := Memref.whole cc0_scratch0
abbrev rsM : Memref sig .tc .vmem S15x128x1024 .bf16 := Memref.whole cc0_scratch1
abbrev sndM : Memref sig .tc .vmem S1x128x1024 .bf16 := Memref.whole cc0_scratch2
abbrev agM : Memref sig .tc .vmem S2048x1024 .bf16 := Memref.whole cc0_scratch3

theorem slot_inb (s : Fin 15) : ∀ a, (![s.val, 0, 0] : Fin 3 → ℕ) a + S1x128x1024.size a ≤ S15x128x1024.size a := by
  revert s; decide
theorem chunk_inb (k : Dev nD) : ∀ a, (![128 * k.val, 0] : Fin 2 → ℕ) a + S128x1024.size a ≤ S2048x1024.size a := by
  revert k; decide

/-- Slot `s` of the reduce-scatter buffer, and chunk `k` of a 2048-row buffer, as rectangles. -/
abbrev slotR (s : Fin 15) : Rect S15x128x1024 := Rect.unit (s := S15x128x1024) ![s.val, 0, 0] S1x128x1024.size (slot_inb s)
abbrev chunkR (k : Dev nD) : Rect S2048x1024 := Rect.unit (s := S2048x1024) ![128 * k.val, 0] S128x1024.size (chunk_inb k)
abbrev sndR : Rect S1x128x1024 := Rect.unit (s := S1x128x1024) ![0, 0, 0] S1x128x1024.size inb_S1x128x1024_S1x128x1024_0_0_0

/-- The send buffer, slot `s` of the reduce-scatter buffer and chunk `k` of the all-gather buffer, each as 128 × 1024. -/
abbrev srcM : Memref sig .tc .vmem S128x1024 .bf16 := (sndM.slice sndR (fun _ => rfl)).squeeze S128x1024 squeezes_S1x128x1024_S128x1024
abbrev slotM (s : Fin 15) : Memref sig .tc .vmem S128x1024 .bf16 := (rsM.slice (slotR s) (fun _ => rfl)).squeeze S128x1024 squeezes_S1x128x1024_S128x1024
abbrev chunkM (k : Dev nD) : Memref sig .tc .vmem S128x1024 .bf16 := agM.slice (chunkR k) (fun _ => rfl)

/-- What hop `h` of device `c` reads, on `c`; -/
def hopSrc (c : Dev nD) (h : Fin 30) : Memref sig .tc .vmem S128x1024 .bf16 :=
  if h.val < 15 then srcM else chunkM (back (h.val - 15) (nxt c))
/-- and what it writes, on `nxt c`. -/
def hopDst (c : Dev nD) (h : Fin 30) : Memref sig .tc .vmem S128x1024 .bf16 :=
  if hs : h.val < 15 then slotM ⟨h.val, hs⟩ else chunkM (back (h.val - 15) (nxt c))

/-! ## The semaphores -/

/-- The barrier semaphore, and hop `h`'s send and receive semaphores. -/
abbrev barS : Sem sig := (SemArray.scalar (sig.barrier 0 rfl) : Sems sig S_).sem
set_option backward.proofsInPublic true in
def sendS (h : Fin 30) : DmaSem sig := ⟨if h.val < 15 then 5 + h.val else 20 + h.val, by revert h; decide⟩
set_option backward.proofsInPublic true in
def recvS (h : Fin 30) : DmaSem sig := ⟨if h.val < 15 then 20 + h.val else 35 + h.val, by revert h; decide⟩

abbrev barCell (c : Dev nD) : GSem nD τ sig := ((c : Thread nD τ), .reg barS)
abbrev sendCell (c : Dev nD) (h : Fin 30) : GSem nD τ sig := ((c : Thread nD τ), .dma (sendS h))
abbrev recvCell (c : Dev nD) (h : Fin 30) : GSem nD τ sig := ((c : Thread nD τ), .dma (recvS h))

/-- A hop's two own semaphores: `false` the send one, `true` the receive one. -/
abbrev osem (k : Bool × Fin 30) : SemLoc sig := if k.1 then .dma (recvS k.2) else .dma (sendS k.2)
/-- All the ring's semaphores of a device: the barrier and the hops'. -/
abbrev csem (k : Option (Bool × Fin 30)) : SemLoc sig := k.elim (.reg barS) osem
abbrev kcell (ck : Dev nD × Option (Bool × Fin 30)) : GSem nD τ sig := ((ck.1 : Thread nD τ), csem ck.2)

/-- The credit of one 128 × 1024 chunk. -/
abbrev N : ℕ := (srcM : Memref sig .tc .vmem S128x1024 .bf16).view.dmaCredit
theorem N_pos : 0 < N := View.dmaCredit_pos _ (by decide)
theorem credit_src : (srcM : Memref sig .tc .vmem S128x1024 .bf16).view.dmaCredit = N := rfl
theorem credit_slot (s : Fin 15) : (slotM s).view.dmaCredit = N := rfl
theorem credit_chunk (k : Dev nD) : (chunkM k).view.dmaCredit = N := rfl
theorem credit_dst (c : Dev nD) (h : Fin 30) : (hopDst c h).view.dmaCredit = N := by
  unfold hopDst; split
  · exact credit_slot _
  · exact credit_chunk _

theorem sendS_inj {h h' : Fin 30} (e : sendS h = sendS h') : h = h' := by
  have := congrArg Fin.val e; simp only [sendS] at this; apply Fin.ext; split at this <;> split at this <;> omega
theorem recvS_inj {h h' : Fin 30} (e : recvS h = recvS h') : h = h' := by
  have := congrArg Fin.val e; simp only [recvS] at this; apply Fin.ext; split at this <;> split at this <;> omega
theorem sendS_ne_recvS (h h' : Fin 30) : sendS h ≠ recvS h' := fun e => by
  have := congrArg Fin.val e; simp only [sendS, recvS] at this; split at this <;> split at this <;> omega

/-- Which hop's receive semaphore a DMA semaphore is, if it is one; likewise for the send ones. -/
def recvHop (q : DmaSem sig) : Option (Fin 30) :=
  if h : 20 ≤ q.val ∧ q.val < 35 then some ⟨q.val - 20, by omega⟩ else if h : 50 ≤ q.val ∧ q.val < 65 then some ⟨q.val - 35, by omega⟩ else none
def sendHop (q : DmaSem sig) : Option (Fin 30) :=
  if h : 5 ≤ q.val ∧ q.val < 20 then some ⟨q.val - 5, by omega⟩ else if h : 35 ≤ q.val ∧ q.val < 50 then some ⟨q.val - 20, by omega⟩ else none

theorem recvHop_recvS : ∀ h : Fin 30, recvHop (recvS h) = some h := by decide
theorem recvHop_sendS : ∀ h : Fin 30, recvHop (sendS h) = none := by decide
theorem sendHop_sendS : ∀ h : Fin 30, sendHop (sendS h) = some h := by decide

end Cert.RingIdeal

end
-- ==== Proof.Ideal.Contents.lean ====
/-
# What each buffer holds

The contents of every buffer of the ring, in the order the kernel computes them: the accumulator, the chunk each hop
sends, the finished chunks and the result.
-/
module

public import proofs.«01_k».proof.Proof.Ideal.Protocol

@[expose] public section

noncomputable section

namespace Cert.RingIdeal

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The four input windows as staged -/

def xStg (c : Dev nD) : (cc0_stg0_0 : Ref sig .tc).ty.Contents (Elt F) :=
  (win0_0.blk (0 : Fin 1)).view.read (Elt F) ((s₀ m ρ).mem ((c : Thread nD τ).loc main_arg0))
def rwStg (c : Dev nD) : (cc0_stg1_0 : Ref sig .tc).ty.Contents (Elt F) :=
  (win0_1.blk (0 : Fin 1)).view.read (Elt F) ((s₀ m ρ).mem ((c : Thread nD τ).loc main_arg1))
def idxStg (c : Dev nD) : (cc0_stg2_0 : Ref sig .tc).ty.Contents (Elt F) :=
  (win0_2.blk (0 : Fin 1)).view.read (Elt F) ((s₀ m ρ).mem ((c : Thread nD τ).loc main_arg2))
def wStg (c : Dev nD) : (cc0_stg3_0 : Ref sig .tc).ty.Contents (Elt F) :=
  (win0_3.blk (0 : Fin 1)).view.read (Elt F) ((s₀ m ρ).mem ((c : Thread nD τ).loc main_arg3))

/-! ## The accumulator -/

theorem expert_inb (e : Fin 8) : ∀ a, (![e.val, 0, 0] : Fin 3 → ℕ) a + S1x512x1024.size a ≤ S8x512x1024.size a := by
  revert e; decide
theorem expert_slices (e : Fin 8) : S2048x8.Slices ![0, e.val] S2048x1 := by revert e; decide
/-- Expert `e`'s weight matrix in the window, and the two index columns, as rectangles. -/
abbrev expertR (e : Fin 8) : Rect S8x512x1024 := Rect.unit (s := S8x512x1024) ![e.val, 0, 0] S1x512x1024.size (expert_inb e)
abbrev idxR0 : Rect S2048x2 := Rect.unit (s := S2048x2) ![0, 0] S2048x1.size inb_S2048x2_S2048x1_0_0
abbrev idxR1 : Rect S2048x2 := Rect.unit (s := S2048x2) ![0, 1] S2048x1.size inb_S2048x2_S2048x1_0_1

def slab (c : Dev nD) (e : Fin 8) : Vec F S1x512x1024 .bf16 :=
  (wM : Memref sig .tc .vmem S8x512x1024 .bf16).view.readAt (Elt F) (expertR e).toLoadRect (wStg m ρ c)
def idx0 (c : Dev nD) : Vec F S2048x1 .i32 :=
  (idxM : Memref sig .tc .vmem S2048x2 .i32).view.readAt (Elt F) idxR0.toLoadRect (idxStg m ρ c)
def idx1 (c : Dev nD) : Vec F S2048x1 .i32 :=
  (idxM : Memref sig .tc .vmem S2048x2 .i32).view.readAt (Elt F) idxR1.toLoadRect (idxStg m ρ c)

/-- The device's word, from which it computes its eight experts' numbers. -/
abbrev devWord (c : Dev nD) : BitVec 32 := Scalar.remsi (Scalar.divsi (Dev.word c) 1#32) 16#32

/-- The eight routing weights of every token on device `c`. -/
def wts (c : Dev nD) : FVec F S2048x8 .f32 :=
  k0_pay7 (devWord c) (k0_pay2 (xStg m ρ c) (rwStg m ρ c)) (k0_pay3 (xStg m ρ c) (rwStg m ρ c)) (k0_pay4 (idx0 m ρ c)) (k0_pay5 (idx1 m ρ c))
    (iota .tc S2048x128 32 [1] iota_S2048x128_d1_w32) (k0_pay6 (xStg m ρ c) (rwStg m ρ c) (idx0 m ρ c))

/-- The first expert's product, and the accumulator with expert `e`'s product added. -/
def firstExpert (c : Dev nD) : FVec F S2048x1024 .f32 :=
  k0_pay8 (devWord c) (k0_pay1 (xStg m ρ c)) (k0_pay2 (xStg m ρ c) (rwStg m ρ c)) (k0_pay3 (xStg m ρ c) (rwStg m ρ c)) (k0_pay4 (idx0 m ρ c)) (k0_pay5 (idx1 m ρ c))
    (iota .tc S2048x128 32 [1] iota_S2048x128_d1_w32) (k0_pay6 (xStg m ρ c) (rwStg m ρ c) (idx0 m ρ c)) (slab m ρ c 0)
def addExpert (e : Fin 8) (x : FVec F S2048x512 .bf16) (w : FVec F S2048x8 .f32) (b : Vec F S1x512x1024 .bf16) (a : Vec F S2048x1024 .f32) :
    FVec F S2048x1024 .f32 :=
  shapeCast S2048x1024
    (addf a (matmul dot_S2048x512_S512x1024_S2048x1024_1_0_0_1_n_n none
      (truncf .bf16 (mulf (extf .f32 x bitsLt_bf16_f32)
        (broadcastTo S2048x512 (extractStridedSlice S2048x1 ![0, e.val] w (expert_slices e)) broadcasts_S2048x1_S2048x512)) bitsLt_bf16_f32)
      (shapeCast S512x1024 b shapeCasts_S1x512x1024_S512x1024) (constant S2048x1024 .f32 0x00000000#32)))
    shapeCasts_S2048x1024_S2048x1024

/-- The accumulator after expert `n` (all eight from `n = 7` on). -/
def accAt (c : Dev nD) : ℕ → FVec F S2048x1024 .f32
  | 0 => firstExpert m ρ c
  | n + 1 => if h : n + 1 < 8 then addExpert ⟨n + 1, h⟩ (k0_pay1 (xStg m ρ c)) (wts m ρ c) (slab m ρ c ⟨n + 1, h⟩) (accAt c n) else accAt c n
/-- Device `c`'s partial sums, chunk `k` of them. -/
def accV (c : Dev nD) : (cc0_scratch0 : Ref sig .tc).ty.Contents (Elt F) := accAt m ρ c 7
def accChunk (c : Dev nD) (k : Dev nD) : Vec F S128x1024 .f32 :=
  (accM : Memref sig .tc .vmem S2048x1024 .f32).view.readAt (Elt F) (chunkR k).toLoadRect (accV m ρ c)

/-! ## What travels -/

/-- A landed chunk plus an own one, rounded. -/
def combine (X : FVec F S128x1024 .bf16) (a : Vec F S128x1024 .f32) : FVec F S128x1024 .bf16 :=
  truncf .bf16 (addf (extf .f32 X bitsLt_bf16_f32) a) bitsLt_bf16_f32

/-- What device `c` sends in reduce-scatter hop `s`. -/
def rsSent : ℕ → Dev nD → FVec F S128x1024 .bf16
  | 0, c => truncf .bf16 (accChunk m ρ c (back 0 c)) bitsLt_bf16_f32
  | s + 1, c => combine (rsSent s (prv c)) (accChunk m ρ c (back (s + 1) c))
/-- The finished chunk `k`: finished on device `prv k`. -/
def finChunk (k : Dev nD) : FVec F S128x1024 .bf16 := combine (rsSent m ρ 14 (prv (prv k))) (accChunk m ρ (prv k) k)
/-- What device `c` sends in hop `h`. -/
def sentAt (c : Dev nD) (h : Fin 30) : FVec F S128x1024 .bf16 :=
  if h.val < 15 then rsSent m ρ h.val c else finChunk m ρ (back (h.val - 15) (nxt c))

/-- The all-gather buffer at the end: every finished chunk in its place. -/
def gathered : (cc0_scratch3 : Ref sig .tc).ty.Contents (Elt F) := fun i =>
  finChunk m ρ (⟨(i 0).val / 128, Nat.div_lt_of_lt_mul (i 0).isLt⟩ : Fin 16)
    (fun | ⟨0, _⟩ => (⟨(i 0).val % 128, Nat.mod_lt _ (by decide)⟩ : Fin 128) | ⟨1, _⟩ => i 1)
/-- The result, the same on every device. -/
def outAt : (cc0_stg4_0 : Ref sig .tc).ty.Contents (Elt F) := k0_pay36 (gathered m ρ)

/-! ## The views' reads -/

theorem zero2 : (![0, 0] : Fin 2 → ℕ) = fun _ => 0 := funext fun a => by fin_cases a <;> rfl
theorem zero3 : (![0, 0, 0] : Fin 3 → ℕ) = fun _ => 0 := funext fun a => by fin_cases a <;> rfl

omit [FloatOps F] in
/-- The send buffer's 128 × 1024 view reads its contents, reshaped; -/
theorem src_read (f : (cc0_scratch2 : Ref sig .tc).ty.Contents (Elt F)) :
    srcM.view.read (Elt F) f = shapeCast S128x1024 f shapeCasts_S1x128x1024_S128x1024 := by
  show shapeCast S128x1024 ((sndM : Memref sig .tc .vmem S1x128x1024 .bf16).view.readAt (Elt F) sndR.toLoadRect f) _ = _
  exact congrArg (fun g => shapeCast S128x1024 g shapeCasts_S1x128x1024_S128x1024) (Memref.readAt_unit_zero (Elt F) cc0_scratch2 zero3 _ f)
omit [FloatOps F] in
/-- a slot's likewise, of what a load of the slot returns. -/
theorem slot_read (s : Fin 15) (f : (cc0_scratch1 : Ref sig .tc).ty.Contents (Elt F)) :
    shapeCast S128x1024 ((rsM : Memref sig .tc .vmem S15x128x1024 .bf16).view.readAt (Elt F) (slotR s).toLoadRect f) shapeCasts_S1x128x1024_S128x1024
      = (slotM s).view.read (Elt F) f := rfl
omit [FloatOps F] in
theorem src_set : (srcM : Memref sig .tc .vmem S128x1024 .bf16).view.set = Finset.univ := by
  show (((View.whole cc0_scratch2).slice sndR).reshape _ _).set = _
  rw [View.set_reshape, View.set_slice_whole]
  exact Finset.eq_univ_iff_forall.mpr fun i => Rect.mem_set_unit.mpr fun a => by
    have := (i a).isLt
    rw [zero3]; exact ⟨Nat.zero_le _, by rw [Nat.zero_add]; exact this⟩
omit [FloatOps F] in
theorem slot_set (s : Fin 15) : (slotM s).view.set = (slotR s).set := by
  show (((View.whole cc0_scratch1).slice (slotR s)).reshape _ _).set = _
  rw [View.set_reshape, View.set_slice_whole]
omit [FloatOps F] in
theorem chunk_set (k : Dev nD) : (chunkM k).view.set = (chunkR k).set := by
  show ((View.whole cc0_scratch3).slice (chunkR k)).set = _
  rw [View.set_slice_whole]

/-- The gathered buffer read through chunk `k` is the finished chunk `k`. -/
theorem gathered_read (k : Dev nD) : (chunkM k).view.read (Elt F) (gathered m ρ) = finChunk m ρ k := by
  funext j
  show gathered m ρ ((chunkR k).emb j) = _
  unfold gathered
  have h0 : (((chunkR k).emb j) 0).val = 128 * k.val + (j 0).val := by rw [Rect.emb_apply]; simp [Rect.unit]
  have h1 : (((chunkR k).emb j) 1).val = (j 1).val := by rw [Rect.emb_apply]; simp [Rect.unit]
  have hj : (j 0).val < 128 := (j 0).isLt
  congr 1
  · apply Fin.ext; show (((chunkR k).emb j) 0).val / 128 = k.val; omega
  · funext a
    fin_cases a
    · apply Fin.ext; show (((chunkR k).emb j) 0).val % 128 = (j 0).val; omega
    · apply Fin.ext; exact h1

end Cert.RingIdeal

end
-- ==== Proof.Ideal.Schedule.lean ====
/-
# The schedule: each semaphore's duties, amounts, hand-overs, and what each device owes
-/
module

public import proofs.«01_k».proof.Proof.Ideal.Contents

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is handed over -/

/-- The place on `nxt c` that hop `h` of `c` lands in, at any contents; -/
def landing (c : Dev nD) (h : Fin 30) : sProp 𝕄 :=
  iprop(∃ f, ((hopDst c h).view.loc (nxt c : Thread nD τ) ↦[(hopDst c h).view.set]{fullShare} f))
/-- all of them: what `nxt c`'s barrier signal hands `c`. -/
def barPay (c : Dev nD) : sProp 𝕄 := bigSep Finset.univ fun h : Fin 30 => landing c h
/-- The landing place of `prv c`'s hop `h`, on `c`, holding what `prv c` sent. -/
def recvPay (c : Dev nD) (h : Fin 30) : sProp 𝕄 := owns (c : Thread nD τ) (hopDst (prv c) h) fullShare (sentAt m ρ (prv c) h)
/-- The source of `c`'s hop `h`, holding what was sent. -/
def sendPay (c : Dev nD) (h : Fin 30) : sProp 𝕄 := owns (c : Thread nD τ) (hopSrc c h) fullShare (sentAt m ρ c h)

omit [FloatOps F] in
instance landing_storable (c : Dev nD) (h) : BI.Storable (upEmb : UEmb _ 𝕄) (landing (F := F) c h) := by unfold landing; infer_instance
omit [FloatOps F] in
instance barPay_storable (c : Dev nD) : BI.Storable (upEmb : UEmb _ 𝕄) (barPay (F := F) c) := by unfold barPay; infer_instance
instance recvPay_storable (c : Dev nD) (h) : BI.Storable (upEmb : UEmb _ 𝕄) (recvPay m ρ c h) := by unfold recvPay; infer_instance
instance sendPay_storable (c : Dev nD) (h) : BI.Storable (upEmb : UEmb _ 𝕄) (sendPay m ρ c h) := by unfold sendPay; infer_instance

/-- One round: a barrier cell has the duties `false` (from `prv`) and `true` (from `nxt`), one unit each; a hop's send and
    receive cells the duty `false` of one chunk's credit. -/
def ringRd : Rounds.Schedule (GSem nD τ sig) Bool 𝕄 where
  duties g r := if r = 0 then (match g.2 with
    | .reg _ => Finset.univ
    | .dma q => if (recvHop q).isSome ∨ (sendHop q).isSome then {false} else ∅) else ∅
  unitless _ := False
  amount g _ _ := match g.2 with | .reg _ => 1 | .dma _ => N
  payload g _ d := match g.2 with
    | .reg _ => if d then barPay g.1.1 else iprop(emp)
    | .dma q => match recvHop q with
      | some h => recvPay m ρ g.1.1 h
      | none => match sendHop q with
        | some h => sendPay m ρ g.1.1 h
        | none => iprop(emp)
  amount_pos g _ _ _ := by
    cases g.2
    · exact Nat.one_pos
    · exact N_pos

instance ringRd_payload_storable (g : GSem nD τ sig) (r : ℕ) (d : Bool) :
    BI.Storable (upEmb : UEmb _ 𝕄) ((ringRd (F := F) m ρ).payload g r d) := by
  dsimp only [ringRd]
  (repeat' split) <;> infer_instance

section Sched
variable (c : Dev nD) (h : Fin 30)

theorem duties_bar : (ringRd (F := F) m ρ).duties (barCell c) 0 = Finset.univ := rfl
theorem duties_send : (ringRd (F := F) m ρ).duties (sendCell c h) 0 = {false} := by
  dsimp only [ringRd]; rw [if_pos rfl, if_pos (Or.inr (by rw [sendHop_sendS]; rfl))]
theorem duties_recv : (ringRd (F := F) m ρ).duties (recvCell c h) 0 = {false} := by
  dsimp only [ringRd]; rw [if_pos rfl, if_pos (Or.inl (by rw [recvHop_recvS]; rfl))]
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_send (d : Bool) : (ringRd (F := F) m ρ).amount (sendCell c h) 0 d = N := rfl
theorem amount_recv (d : Bool) : (ringRd (F := F) m ρ).amount (recvCell c h) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell c h) 0 = N := by
  unfold Schedule.expect Schedule.amountOf; rw [duties_send, Finset.sum_singleton, amount_send]
theorem expect_recv : (ringRd (F := F) m ρ).expect (recvCell c h) 0 = N := by
  unfold Schedule.expect Schedule.amountOf; rw [duties_recv, Finset.sum_singleton, amount_recv]

theorem payload_bar_true : (ringRd (F := F) m ρ).payload (barCell c) 0 true = barPay c := rfl
theorem payload_bar_false : (ringRd (F := F) m ρ).payload (barCell c) 0 false = iprop(emp) := rfl
theorem payload_send (d : Bool) : (ringRd (F := F) m ρ).payload (sendCell c h) 0 d = sendPay m ρ c h := by
  dsimp only [ringRd]; rw [recvHop_sendS, sendHop_sendS]
theorem payload_recv (d : Bool) : (ringRd (F := F) m ρ).payload (recvCell c h) 0 d = recvPay m ρ c h := by
  dsimp only [ringRd]; rw [recvHop_recvS]

/-- All a barrier cell's round hands over: nothing and the landing places. -/
theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m ρ).duties (sendCell c h) 0 \ ∅) (fun d => (ringRd (F := F) m ρ).payload (sendCell c h) 0 d) = sendPay m ρ c h := by
  rw [Finset.sdiff_empty, duties_send, bigSep_singleton, payload_send]
theorem rest_recv : bigSep ((ringRd (F := F) m ρ).duties (recvCell c h) 0 \ ∅) (fun d => (ringRd (F := F) m ρ).payload (recvCell c h) 0 d) = recvPay m ρ c h := by
  rw [Finset.sdiff_empty, duties_recv, bigSep_singleton, payload_recv]

end Sched

/-! ## What each device owes; the levels -/

/-- The credits device `c` still owes `nxt c`'s receive cells from hop `n` on. -/
def owedFrom (c : Dev nD) (n : ℕ) : CellTallies nD τ sig Unit :=
  ∑ h ∈ Finset.univ.filter (fun h : Fin 30 => n ≤ h.val), tallyAt (recvCell (nxt c) h) () N
/-- Owed before the second barrier signal, and at launch. -/
def O₁ (c : Dev nD) : CellTallies nD τ sig Unit := owedFrom c 0 + tallyAt (barCell (nxt c)) () 1
def O₀ (c : Dev nD) : CellTallies nD τ sig Unit := O₁ c + tallyAt (barCell (prv c)) () 1

/-- The hops from `h` on are `h` and the ones after it; the hops up to `h` are `h` and the ones before it. -/
theorem filter_from (h : Fin 30) :
    Finset.univ.filter (fun j : Fin 30 => h.val ≤ j.val) = insert h (Finset.univ.filter fun j : Fin 30 => h.val + 1 ≤ j.val) := by
  ext j; simp only [Finset.mem_filter, Finset.mem_univ, true_and, Finset.mem_insert, Fin.ext_iff]; omega
theorem not_mem_from (h : Fin 30) : h ∉ Finset.univ.filter (fun j : Fin 30 => h.val + 1 ≤ j.val) := by
  simp only [Finset.mem_filter, Finset.mem_univ, true_and]; omega
theorem filter_upto (h : Fin 30) :
    Finset.univ.filter (fun j : Fin 30 => j.val < h.val + 1) = insert h (Finset.univ.filter fun j : Fin 30 => j.val < h.val) := by
  ext j; simp only [Finset.mem_filter, Finset.mem_univ, true_and, Finset.mem_insert, Fin.ext_iff]; omega
theorem not_mem_upto (h : Fin 30) : h ∉ Finset.univ.filter (fun j : Fin 30 => j.val < h.val) := by
  simp only [Finset.mem_filter, Finset.mem_univ, true_and]; omega

theorem owedFrom_peel (c : Dev nD) (h : Fin 30) : owedFrom c h.val = owedFrom c (h.val + 1) + tallyAt (recvCell (nxt c) h) () N := by
  unfold owedFrom; rw [filter_from, Finset.sum_insert (not_mem_from h), add_comm]
theorem owedFrom_end (c : Dev nD) : owedFrom c 30 = 0 := by
  unfold owedFrom
  rw [Finset.filter_false_of_mem fun h _ => by have := h.isLt; omega, Finset.sum_empty]

theorem tally_pos {g₀ g : GSem nD τ sig} {k : ℕ} {u : Unit} (hg : 0 < (tallyAt g₀ () k : CellTallies nD τ sig Unit) g u) : g = g₀ := by
  rw [tallyAt_apply] at hg
  by_contra hn
  rw [if_neg (fun h' => hn h'.1)] at hg
  exact Nat.lt_irrefl 0 hg

theorem owedFrom_apply (c : Dev nD) (n : ℕ) (g : GSem nD τ sig) (u : Unit) :
    owedFrom c n g u = ∑ h ∈ Finset.univ.filter (fun h : Fin 30 => n ≤ h.val), (tallyAt (recvCell (nxt c) h) () N : CellTallies nD τ sig Unit) g u := by
  unfold owedFrom; rw [Finset.sum_apply, Finsupp.finset_sum_apply]
/-- Whatever is still owed from hop `n` on is owed to a receive cell of a hop from `n` on. -/
theorem owedFrom_pos {c : Dev nD} {n : ℕ} {g : GSem nD τ sig} {u : Unit} (hg : 0 < owedFrom c n g u) :
    ∃ h : Fin 30, n ≤ h.val ∧ g = recvCell (nxt c) h := by
  rw [owedFrom_apply] at hg
  obtain ⟨h, hm, hp⟩ := Finset.exists_ne_zero_of_sum_ne_zero (Nat.pos_iff_ne_zero.mp hg)
  exact ⟨h, (Finset.mem_filter.mp hm).2, tally_pos (Nat.pos_of_ne_zero hp)⟩
theorem sum3_pos {a b d : ℕ} (h : 0 < a + b + d) : 0 < a ∨ 0 < b ∨ 0 < d := by omega
theorem O₀_pos {c : Dev nD} {g : GSem nD τ sig} {u : Unit} (hg : 0 < O₀ c g u) :
    (∃ h : Fin 30, g = recvCell (nxt c) h) ∨ g = barCell (nxt c) ∨ g = barCell (prv c) := by
  unfold O₀ O₁ at hg
  rw [Pi.add_apply, Finsupp.add_apply, Pi.add_apply, Finsupp.add_apply] at hg
  rcases sum3_pos hg with h1 | h2 | h3
  · obtain ⟨h, _, e⟩ := owedFrom_pos h1; exact .inl ⟨h, e⟩
  · exact .inr (.inl (tally_pos h2))
  · exact .inr (.inr (tally_pos h3))

def L (g : GSem nD τ sig) : Finset Unit := if g.1.2 = .tc then {()} else ∅
/-- Staging and send cells at 0, barrier cells at 1, hop `h`'s receive cells at `2 + h`. -/
def lv (g : GSem nD τ sig) (_ : Unit) : ℕ := match g.2 with
  | .reg _ => 1
  | .dma q => match recvHop q with | some h => 2 + h.val | none => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_recv (c : Dev nD) (h : Fin 30) (u : Unit) : lv (recvCell c h) u = 2 + h.val := by dsimp only [lv]; rw [recvHop_recvS]
theorem lv_send (c : Dev nD) (h : Fin 30) (u : Unit) : lv (sendCell c h) u = 0 := by dsimp only [lv]; rw [recvHop_sendS]

/-- A device may wait on one of its own cells while it owes only receive cells of hops from `n` on, if its cell is below
    those. -/
theorem mayWait_owed (c : Dev nD) (sm : SemLoc sig) (n : ℕ) (hl : lv ((c : Thread nD τ), sm) () < 2 + n) :
    (levAts L lv : sProp 𝕄) ⊢ MayWait (c : Thread nD τ) sm () (owedFrom c n) :=
  MayOwe.of_cut (L := L) (lev := lv) (lv ((c : Thread nD τ), sm) ()) (fun p hp => by rw [Finset.mem_singleton.mp hp]; exact mem_L _ _ _)
    (fun g u hg => by obtain ⟨h, _, rfl⟩ := owedFrom_pos hg; exact mem_L _ _ _)
    (fun p hp => by rw [Finset.mem_singleton.mp hp])
    (fun g u hg => by obtain ⟨h, hn, rfl⟩ := owedFrom_pos hg; rw [lv_recv]; omega)

/-- It may wait on a staging semaphore owing everything or nothing. -/
theorem mayWait_stage (c : Dev nD) (q : DmaSem sig) (hq : recvHop q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos hg with ⟨h, rfl⟩ | rfl | rfl <;> exact mem_L _ _ _)
      (fun p hp => by rw [Finset.mem_singleton.mp hp]; dsimp only [lv]; rw [hq])
      (fun g u hg => by
        rcases O₀_pos hg with ⟨h, rfl⟩ | rfl | rfl
        · rw [lv_recv]; omega
        · exact Nat.one_pos
        · exact Nat.one_pos)
  · rw [MayWait_zero]; iintro -; iempintro

end Cert.RingIdeal

end
-- ==== Proof.Ideal.Hop.lean ====
/-
# One hop

The state of a device between two hops, and a hop as one rule: send to the right, wait until the source is read, wait for
what the left device sent.
-/
module

public import proofs.«01_k».proof.Proof.Ideal.Schedule

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Taking one conjunct -/

omit [FloatOps F] in
theorem sep_take {I : Type} [DecidableEq I] {s : Finset I} {i : I} (hi : i ∈ s) (Φ : I → sProp 𝕄) :
    bigSep s Φ = iprop(Φ i ∗ bigSep (s.erase i) Φ) := BI.bigSep_erase hi
omit [FloatOps F] in
theorem sep_put {I : Type} [DecidableEq I] {s : Finset I} {i : I} (hi : i ∉ s) (Φ : I → sProp 𝕄) :
    bigSep (insert i s) Φ = iprop(Φ i ∗ bigSep s Φ) := BI.bigSep_insert hi
omit [FloatOps F] in
theorem sep_one {I : Type} [DecidableEq I] {s : Finset I} {i : I} (hi : i ∈ s) (Φ : I → sProp 𝕄) :
    bigSep s Φ ⊢ Φ i := BI.bigSep_elim hi

/-! ## What everybody knows -/

/-- Every cell's invariant, under the names `K`, and that every cell has reached round 0. -/
def records (K : Dev nD × Option (Bool × Fin 30) → ℕ) : sProp 𝕄 :=
  iprop((bigSep Finset.univ fun ck : Dev nD × Option (Bool × Fin 30) => cellInv ER (ringRd m ρ) (K ck) (kcell ck))
    ∗ bigSep Finset.univ fun ck : Dev nD × Option (Bool × Fin 30) => reached ER (kcell ck) 0)

instance records_persistent (K) : BI.Persistent (records m ρ K) := by unfold records; infer_instance

variable (K : Dev nD × Option (Bool × Fin 30) → ℕ)

theorem inv_at (ck : Dev nD × Option (Bool × Fin 30)) : records m ρ K ⊢ cellInv ER (ringRd m ρ) (K ck) (kcell ck) := by
  unfold records
  iintro ⟨H, -⟩
  iapply (sep_one (Finset.mem_univ ck) fun ck : Dev nD × Option (Bool × Fin 30) => cellInv ER (ringRd m ρ) (K ck) (kcell ck)); iexact H
theorem reached_at (ck : Dev nD × Option (Bool × Fin 30)) : records m ρ K ⊢ reached ER (kcell ck) 0 := by
  unfold records
  iintro ⟨-, H⟩
  iapply (sep_one (Finset.mem_univ ck) fun ck : Dev nD × Option (Bool × Fin 30) => reached ER (kcell ck) 0); iexact H

/-! ## The state between hops -/

/-- What device `c` holds from the launch for a hop still to come: the tokens of the two duties it pays and its positions
    at its own two cells; -/
def hold (c : Dev nD) (h : Fin 30) : sProp 𝕄 :=
  iprop((dutyTok ER (sendCell c h) 0 false ∗ dutyTok ER (recvCell (nxt c) h) 0 false)
    ∗ atPos ER (sendCell c h) 0 ∅ 0 ∗ atPos ER (recvCell c h) 0 ∅ 0)
/-- with the credit its receive cell is owed. -/
def ticket (c : Dev nD) (h : Fin 30) : sProp 𝕄 := iprop(hold c h ∗ cred (tallyAt (recvCell c h) () N))
/-- With the landing place. -/
def ready (c : Dev nD) (h : Fin 30) : sProp 𝕄 := iprop(ticket c h ∗ landing c h)
/-- What it holds after a hop, the landed chunk apart: its two counters back at zero. -/
def closed (c : Dev nD) (h : Fin 30) : sProp 𝕄 := iprop(semVal (sendCell c h) 0 ∗ semVal (recvCell c h) 0)
/-- What it holds after a hop. -/
def passed (c : Dev nD) (h : Fin 30) : sProp 𝕄 := iprop(recvPay m ρ c h ∗ closed c h)

def owesFrom (c : Dev nD) (n : ℕ) : sProp 𝕄 := iprop(∃ W : Waits sig Unit, owes (c : Thread nD τ) (owedFrom c n) W)

/-- Device `c` just before hop `n`: what it still owes and holds for the hops to come, -/
def Ahead (c : Dev nD) (n : ℕ) : sProp 𝕄 :=
  iprop(owesFrom c n ∗ bigSep (Finset.univ.filter fun h : Fin 30 => n ≤ h.val) fun h => ready c h)
/-- and that with what the hops before left. -/
def St (c : Dev nD) (n : ℕ) : sProp 𝕄 :=
  iprop(Ahead c n ∗ bigSep (Finset.univ.filter fun h : Fin 30 => h.val < n) fun h => passed m ρ c h)

/-- What landed in an earlier hop can be looked at and put back. -/
theorem St_peek (c : Dev nD) (n : ℕ) (h : Fin 30) (hn : h.val < n) :
    St m ρ c n ⊢ iprop(recvPay m ρ c h ∗ (recvPay m ρ c h -∗ St m ρ c n)) := by
  unfold St
  iintro ⟨Hr, Hp⟩
  ihave Hp' := (Entails.of_eq (sep_take (Finset.mem_filter.mpr ⟨Finset.mem_univ h, hn⟩) fun h => passed m ρ c h)) $$ Hp
  icases Hp' with ⟨Hh, Hp⟩
  unfold passed
  icases Hh with ⟨H1, H2⟩
  isplitl [H1]; · iexact H1
  iintro H1
  isplitl [Hr]; · iexact Hr
  iapply (Entails.of_eq (sep_take (Finset.mem_filter.mpr ⟨Finset.mem_univ h, hn⟩) fun h => iprop(recvPay m ρ c h ∗ closed c h)).symm)
  isplitl [H1 H2]
  · isplitl [H1] <;> iassumption
  iexact Hp

/-! ## The transfer -/

/-- The transfer of hop `h`: the source on `c` and the landing place on `nxt c` go in; the send cell's credit comes out. -/
theorem wp_hop_send (c n : Dev nD) (hn : n = nxt c) (h : Fin 30) (src dst : Memref sig .tc .vmem S128x1024 .bf16) (hs : src = hopSrc c h) (hd : dst = hopDst c h)
    (sS rS : DmaSem sig) (hsS : sS = sendS h) (hrS : rS = recvS h)
    {hsc : (dst : Memref sig (Dev.tc n : Thread nD τ).2.kind .vmem S128x1024 .bf16).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} (W : Waits sig Unit) :
    iprop(records m ρ K ∗ sendPay m ρ c h ∗ landing c h ∗ owes (c : Thread nD τ) (owedFrom c h.val) W
        ∗ dutyTok ER (sendCell c h) 0 false ∗ dutyTok ER (recvCell (nxt c) h) 0 false)
      ⊢ iprop(((cred (tallyAt (sendCell c h) () N) ∗ owes (c : Thread nD τ) (owedFrom c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs hd hsS hrS
  unfold sendPay landing owns
  iintro ⟨#HR, ⟨%fs, %hfs, Hs⟩, ⟨%fd, Hd⟩, HO, Ht1, Ht2⟩
  iintro Hk
  iapply (Rounds.wp_send_pointsTo 𝒱₀ ER (ringRd m ρ) (c : Thread nD τ) none (κ₁ := K (c, some (false, h))) (κ₂ := K (nxt c, some (true, h)))
    (r₁ := 0) (r₂ := 0) (d₁ := false) (d₂ := false) (fs := fs) (fd := fd)
    (by rw [duties_send]; exact Finset.mem_singleton_self _) (by rw [duties_recv]; exact Finset.mem_singleton_self _)
    () () N (show (hopDst c h).view.amount (.dma (recvS h)) = N from credit_dst c h) (amount_send m ρ c h false) (amount_recv m ρ (nxt c) h false) (owedFrom c (h.val + 1)) (owedFrom_peel c h) (W := W)
    (by
      rw [payload_send]; unfold sendPay owns
      iintro H; iexists fs; isplitr; · ipureintro; exact hfs
      iexact H)
    (by
      rw [payload_recv]; unfold recvPay owns; rw [prv_nxt]
      iintro H; iexists _; isplitr
      swap
      · iexact H
      · ipureintro; rw [View.read_write_univ]; exact hfs)) $$ [Hs Hd HO Ht1 Ht2]
  · isplitr; · iapply (inv_at m ρ K (c, some (false, h))); iexact HR
    isplitr; · iapply (inv_at m ρ K (nxt c, some (true, h))); iexact HR
    isplitl [Hs]; · iexact Hs
    isplitl [Hd]; · iexact Hd
    isplitl [HO]; · iexact HO
    isplitl [Ht1]; · iexact Ht1
    isplitr; · iapply (reached_at m ρ K (c, some (false, h))); iexact HR
    isplitl [Ht2]; · iexact Ht2
    iapply (reached_at m ρ K (nxt c, some (true, h))); iexact HR
  iexact Hk

/-- Hop `h` whole: with the source holding what is to be sent, from the state before `h` to the state after it. -/
theorem wp_hop (c n : Dev nD) (hn : n = nxt c) (h : Fin 30) (src dst : Memref sig .tc .vmem S128x1024 .bf16) (hs : src = hopSrc c h) (hd : dst = hopDst c h)
    (sS rS sS' rS' : DmaSem sig) (hsS : sS = sendS h) (hrS : rS = recvS h) (hsS' : sS' = sendS h) (hrS' : rS' = recvS h)
    {a₁ b₁ a₂ b₂ : Memref sig .tc .vmem S128x1024 .bf16} (hb₁ : b₁.view.dmaCredit = N) (hb₂ : b₂.view.dmaCredit = N)
    {hsc : (dst : Memref sig (Dev.tc n : Thread nD τ).2.kind .vmem S128x1024 .bf16).view.ref.isScScratch = false}
    {hsrc : src.view.WordExact} {hdst : dst.view.WordExact}
    {hsem : DmaTarget.Typed .vmem (.dma rS) (.remote (Dev.tc n : Thread nD τ) dst (.dma sS) hsc)}
    {ha₁ : a₁.view.WordExact} {hb₁' : b₁.view.WordExact} {ha₂ : a₂.view.WordExact} {hb₂' : b₂.view.WordExact}
    {α : Type} {Q : α → sProp 𝕄} {k : PUnit → Prog (TpuEff nD τ sig (Elt F) Λ₀ .tc) α} :
    iprop(records m ρ K ∗ levAts L lv ∗ Ahead c h.val ∗ sendPay m ρ c h)
      ⊢ iprop(((Ahead c (h.val + 1) ∗ passed m ρ c h ∗ sendPay m ρ c h)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) fun _ =>
                .op (.waitDma2 sS' a₁ b₁ ha₁ hb₁') fun _ => .op (.waitDma2 rS' a₂ b₂ ha₂ hb₂') k) Q) := by
  subst hsS' hrS'
  unfold Ahead owesFrom
  rw [filter_from, sep_put (not_mem_from h)]
  iintro ⟨#HR, #Hlev, ⟨⟨%W, HO⟩, Hh, Hr⟩, Hsrc⟩
  iintro Hk
  unfold ready ticket hold
  icases Hh with ⟨⟨⟨⟨Ht1, Ht2⟩, HatS, HatV⟩, HcV⟩, Hland⟩
  iapply (wp_hop_send m ρ K c n hn h src dst hs hd sS rS hsS hrS W) $$ [Hsrc Hland HO Ht1 Ht2]
  · isplitr; · iexact HR
    isplitl [Hsrc]; · iexact Hsrc
    isplitl [Hland]; · iexact Hland
    isplitl [HO]; · iexact HO
    isplitl [Ht1] <;> iassumption
  iintro ⟨HcS, HO⟩
  iapply (Rounds.wp_wait_rest_token 𝒱₀ ER (ringRd m ρ) (c : Thread nD τ) none (κ := K (c, some (false, h)))
      (wpE_waitDma2_eq 𝒱₀ (c : Thread nD τ) none Set.univ) (Set.mem_univ _) () (O := owedFrom c (h.val + 1)) (W := W) (R := 0) (m := 0) (T := ∅)
      (by rw [Nat.zero_add, hb₁]; exact (expect_send m ρ c h).symm)) $$ [HcS HO HatS]
  · isplitr; · iapply (inv_at m ρ K (c, some (false, h))); iexact HR
    isplitl [HcS]; · rw [hb₁]; iexact HcS
    isplitl [HO]; · iexact HO
    isplitr
    · iapply (mayWait_owed c (.dma (sendS h)) (h.val + 1) (by rw [show lv ((c : Thread nD τ), .dma (sendS h)) () = 0 from lv_send c h ()]; omega)); iexact Hlev
    iexact HatS
  iintro ⟨HO, HatS, -, Hpay⟩
  ihave Hsrc := (Entails.of_eq (rest_send m ρ c h)) $$ Hpay
  iapply (Rounds.wp_wait_rest_token 𝒱₀ ER (ringRd m ρ) (c : Thread nD τ) none (κ := K (c, some (true, h)))
      (wpE_waitDma2_eq 𝒱₀ (c : Thread nD τ) none Set.univ) (Set.mem_univ _) () (O := owedFrom c (h.val + 1))
      (W := insert (SemLoc.dma (sendS h), ()) W) (R := 0) (m := 0) (T := ∅)
      (by rw [Nat.zero_add, hb₂]; exact (expect_recv m ρ c h).symm)) $$ [HcV HO HatV]
  · isplitr; · iapply (inv_at m ρ K (c, some (true, h))); iexact HR
    isplitl [HcV]; · rw [hb₂]; iexact HcV
    isplitl [HO]; · iexact HO
    isplitr
    · iapply (mayWait_owed c (.dma (recvS h)) (h.val + 1) (by rw [show lv ((c : Thread nD τ), .dma (recvS h)) () = 2 + h.val from lv_recv c h ()]; omega)); iexact Hlev
    iexact HatV
  iintro ⟨HO, HatV, -, Hpay⟩
  ihave Hland := (Entails.of_eq (rest_recv m ρ c h)) $$ Hpay
  imod (Rounds.cell_close ER (ringRd m ρ) (Set.mem_univ (K (c, some (false, h)))) (fun h => h) (R := 0 + 1) (duties_later m ρ (sendCell c h))) $$ [HatS] with HzS
  · isplitr; · iapply (inv_at m ρ K (c, some (false, h))); iexact HR
    iexact HatS
  imod (Rounds.cell_close ER (ringRd m ρ) (Set.mem_univ (K (c, some (true, h)))) (fun h => h) (R := 0 + 1) (duties_later m ρ (recvCell c h))) $$ [HatV] with HzV
  · isplitr; · iapply (inv_at m ρ K (c, some (true, h))); iexact HR
    iexact HatV
  iapply Hk
  isplitl [HO Hr]
  · isplitl [HO]; · iexists _; iexact HO
    iexact Hr
  isplitr [Hsrc]
  · unfold passed closed
    isplitl [Hland]; · iexact Hland
    isplitl [HzS] <;> iassumption
  · iexact Hsrc

/-- After hop `h` its leavings join those of the hops before. -/
theorem St_next (c : Dev nD) (h : Fin 30) :
    iprop(Ahead c (h.val + 1) ∗ passed m ρ c h ∗ bigSep (Finset.univ.filter fun j : Fin 30 => j.val < h.val) fun j => passed m ρ c j)
      ⊢ St m ρ c (h.val + 1) := by
  unfold St
  rw [filter_upto, sep_put (not_mem_upto h)]

/-- The state, taken apart. -/
theorem St_eq (c : Dev nD) (n : ℕ) :
    St m ρ c n = iprop(Ahead c n ∗ bigSep (Finset.univ.filter fun h : Fin 30 => h.val < n) fun h => passed m ρ c h) := rfl
theorem passed_eq (c : Dev nD) (h : Fin 30) : passed m ρ c h = iprop(recvPay m ρ c h ∗ closed c h) := rfl

/-- A hop whose source is held aside. -/
theorem wp_hop_aside (c n : Dev nD) (hn : n = nxt c) (h : Fin 30) (src dst : Memref sig .tc .vmem S128x1024 .bf16) (hs : src = hopSrc c h) (hd : dst = hopDst c h)
    (sS rS sS' rS' : DmaSem sig) (hsS : sS = sendS h) (hrS : rS = recvS h) (hsS' : sS' = sendS h) (hrS' : rS' = recvS h)
    {a₁ b₁ a₂ b₂ : Memref sig .tc .vmem S128x1024 .bf16} (hb₁ : b₁.view.dmaCredit = N) (hb₂ : b₂.view.dmaCredit = N)
    {hsc : (dst : Memref sig (Dev.tc n : Thread nD τ).2.kind .vmem S128x1024 .bf16).view.ref.isScScratch = false}
    {hsrc : src.view.WordExact} {hdst : dst.view.WordExact}
    {hsem : DmaTarget.Typed .vmem (.dma rS) (.remote (Dev.tc n : Thread nD τ) dst (.dma sS) hsc)}
    {ha₁ : a₁.view.WordExact} {hb₁' : b₁.view.WordExact} {ha₂ : a₂.view.WordExact} {hb₂' : b₂.view.WordExact}
    {α : Type} {Q : α → sProp 𝕄} {k : PUnit → Prog (TpuEff nD τ sig (Elt F) Λ₀ .tc) α} :
    iprop(records m ρ K ∗ levAts L lv ∗ St m ρ c h.val ∗ sendPay m ρ c h)
      ⊢ iprop(((St m ρ c (h.val + 1) ∗ sendPay m ρ c h)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) fun _ =>
                .op (.waitDma2 sS' a₁ b₁ ha₁ hb₁') fun _ => .op (.waitDma2 rS' a₂ b₂ ha₂ hb₂') k) Q) := by
  iintro ⟨#HR, #Hlev, HSt, Hsrc⟩
  iintro Hk
  ihave HSt := (Entails.of_eq (St_eq m ρ c h.val)) $$ HSt
  icases HSt with ⟨HA, Hp⟩
  iapply (wp_hop m ρ K c n hn h src dst hs hd sS rS sS' rS' hsS hrS hsS' hrS' hb₁ hb₂) $$ [HA Hsrc]
  · isplitr; · iexact HR
    isplitr; · iexact Hlev
    isplitl [HA] <;> iassumption
  iintro ⟨HA, Hh, Hsrc⟩
  iapply Hk
  isplitr [Hsrc]
  · iapply (St_next m ρ c h)
    isplitl [HA]; · iexact HA
    isplitl [Hh] <;> iassumption
  iexact Hsrc

/-- A hop that sends on what landed in an earlier hop `j`. -/
theorem wp_hop_on (c n : Dev nD) (hn : n = nxt c) (j h : Fin 30) (hj : j.val < h.val) (he : recvPay m ρ c j = sendPay m ρ c h)
    (src dst : Memref sig .tc .vmem S128x1024 .bf16) (hs : src = hopSrc c h) (hd : dst = hopDst c h)
    (sS rS sS' rS' : DmaSem sig) (hsS : sS = sendS h) (hrS : rS = recvS h) (hsS' : sS' = sendS h) (hrS' : rS' = recvS h)
    {a₁ b₁ a₂ b₂ : Memref sig .tc .vmem S128x1024 .bf16} (hb₁ : b₁.view.dmaCredit = N) (hb₂ : b₂.view.dmaCredit = N)
    {hsc : (dst : Memref sig (Dev.tc n : Thread nD τ).2.kind .vmem S128x1024 .bf16).view.ref.isScScratch = false}
    {hsrc : src.view.WordExact} {hdst : dst.view.WordExact}
    {hsem : DmaTarget.Typed .vmem (.dma rS) (.remote (Dev.tc n : Thread nD τ) dst (.dma sS) hsc)}
    {ha₁ : a₁.view.WordExact} {hb₁' : b₁.view.WordExact} {ha₂ : a₂.view.WordExact} {hb₂' : b₂.view.WordExact}
    {α : Type} {Q : α → sProp 𝕄} {k : PUnit → Prog (TpuEff nD τ sig (Elt F) Λ₀ .tc) α} :
    iprop(records m ρ K ∗ levAts L lv ∗ St m ρ c h.val)
      ⊢ iprop((St m ρ c (h.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) fun _ =>
                .op (.waitDma2 sS' a₁ b₁ ha₁ hb₁') fun _ => .op (.waitDma2 rS' a₂ b₂ ha₂ hb₂') k) Q) := by
  iintro ⟨#HR, #Hlev, HSt⟩
  iintro Hk
  ihave HSt := (Entails.of_eq (St_eq m ρ c h.val)) $$ HSt
  icases HSt with ⟨HA, Hp⟩
  ihave Hp := (Entails.of_eq (sep_take (Finset.mem_filter.mpr ⟨Finset.mem_univ j, hj⟩) fun h => passed m ρ c h)) $$ Hp
  icases Hp with ⟨Hj, Hp⟩
  ihave Hj := (Entails.of_eq (passed_eq m ρ c j)) $$ Hj
  icases Hj with ⟨Hsrc, Hz⟩
  ihave Hsrc := (Entails.of_eq he) $$ Hsrc
  iapply (wp_hop m ρ K c n hn h src dst hs hd sS rS sS' rS' hsS hrS hsS' hrS' hb₁ hb₂) $$ [HA Hsrc]
  · isplitr; · iexact HR
    isplitr; · iexact Hlev
    isplitl [HA] <;> iassumption
  iintro ⟨HA, Hh, Hsrc⟩
  ihave Hsrc := (Entails.of_eq he.symm) $$ Hsrc
  iapply Hk
  iapply (St_next m ρ c h)
  isplitl [HA]; · iexact HA
  isplitl [Hh]; · iexact Hh
  rw [sep_take (Finset.mem_filter.mpr ⟨Finset.mem_univ j, hj⟩) fun h => passed m ρ c h]
  isplitr [Hp]
  · rw [passed_eq]
    isplitl [Hsrc] <;> iassumption
  iexact Hp

end Cert.RingIdeal

end
-- ==== Proof.Ideal.Halves.lean ====
/-
# The hops' two halves and the buffers

The reduce-scatter's and the all-gather's hops named apart, and the two buffers they land in cut into landing places and
joined again.
-/
module

public import proofs.«01_k».proof.Proof.Ideal.Hop
public import Idealize.ShloMosaic.Lib.ViewIndex

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two halves of the hops -/

/-- Hop `s` of the reduce-scatter and of the all-gather. -/
abbrev rsHop (s : Fin 15) : Fin 30 := ⟨s.val, by omega⟩
abbrev agHop (s : Fin 15) : Fin 30 := ⟨15 + s.val, by omega⟩

theorem hopDst_rs (c : Dev nD) (s : Fin 15) : hopDst c (rsHop s) = slotM s := by unfold hopDst; rw [dif_pos s.isLt]
theorem hopSrc_rs (c : Dev nD) (s : Fin 15) : hopSrc c (rsHop s) = srcM := by unfold hopSrc; rw [if_pos s.isLt]
theorem hopDst_ag (c : Dev nD) (s : Fin 15) : hopDst c (agHop s) = chunkM (back s.val (nxt c)) := by
  unfold hopDst; rw [dif_neg (by show ¬ 15 + s.val < 15; omega), show (agHop s).val - 15 = s.val from Nat.add_sub_cancel_left ..]
theorem hopSrc_ag (c : Dev nD) (s : Fin 15) : hopSrc c (agHop s) = chunkM (back s.val (nxt c)) := by
  unfold hopSrc; rw [if_neg (by show ¬ 15 + s.val < 15; omega), show (agHop s).val - 15 = s.val from Nat.add_sub_cancel_left ..]
theorem sentAt_rs (c : Dev nD) (s : Fin 15) : sentAt m ρ c (rsHop s) = rsSent m ρ s.val c := by unfold sentAt; rw [if_pos s.isLt]
theorem sentAt_ag (c : Dev nD) (s : Fin 15) : sentAt m ρ c (agHop s) = finChunk m ρ (back s.val (nxt c)) := by
  unfold sentAt; rw [if_neg (by show ¬ 15 + s.val < 15; omega), show (agHop s).val - 15 = s.val from Nat.add_sub_cancel_left ..]

theorem recvPay_rs (c : Dev nD) (s : Fin 15) : recvPay m ρ c (rsHop s) = owns (c : Thread nD τ) (slotM s) fullShare (rsSent m ρ s.val (prv c)) := by
  unfold recvPay; rw [hopDst_rs, sentAt_rs]
theorem recvPay_ag (c : Dev nD) (s : Fin 15) : recvPay m ρ c (agHop s) = owns (c : Thread nD τ) (chunkM (back s.val c)) fullShare (finChunk m ρ (back s.val c)) := by
  unfold recvPay; rw [hopDst_ag, sentAt_ag, nxt_prv]
theorem sendPay_rs (c : Dev nD) (s : Fin 15) : sendPay m ρ c (rsHop s) = owns (c : Thread nD τ) srcM fullShare (rsSent m ρ s.val c) := by
  unfold sendPay; rw [hopSrc_rs, sentAt_rs]
theorem sendPay_ag (c : Dev nD) (s : Fin 15) :
    sendPay m ρ c (agHop s) = owns (c : Thread nD τ) (chunkM (back s.val (nxt c))) fullShare (finChunk m ρ (back s.val (nxt c))) := by
  unfold sendPay; rw [hopSrc_ag, sentAt_ag]

/-- What landed in all-gather hop `s` is what hop `s + 1` sends on. -/
theorem pass_on (c : Dev nD) (s t : Fin 15) (hst : t.val = s.val + 1) : recvPay m ρ c (agHop s) = sendPay m ρ c (agHop t) := by
  rw [recvPay_ag, sendPay_ag, hst, back_one_nxt _ _ (by omega)]
theorem back_zero (c : Dev nD) : back 0 c = c := by
  have : c.val < 16 := c.isLt
  apply Fin.ext; show (c.val + 16 - 0) % 16 = c.val; omega

omit [FloatOps F] in
/-- A conjunction over the hops is one over each half's. -/
theorem sep_halves (Φ : Fin 30 → sProp 𝕄) :
    bigSep Finset.univ Φ = iprop((bigSep Finset.univ fun s : Fin 15 => Φ (rsHop s)) ∗ bigSep Finset.univ fun s : Fin 15 => Φ (agHop s)) := by
  rw [bigSep_univ_equiv (finSumFinEquiv : Fin 15 ⊕ Fin 15 ≃ Fin 30), BI.bigSep_univ_sum]
  rfl

theorem back_inj (c : Dev nD) {s t : Fin 15} (h : back s.val c = back t.val c) : s = t := by
  have e : (c.val + 16 - s.val) % 16 = (c.val + 16 - t.val) % 16 := congrArg Fin.val h
  have := s.isLt; have := t.isLt; have : c.val < 16 := c.isLt
  apply Fin.ext; omega
theorem chunks_erase (c : Dev nD) : (Finset.univ.erase (nxt c) : Finset (Dev nD)) = Finset.univ.map ⟨fun s : Fin 15 => back s.val c, fun _ _ => back_inj c⟩ := by
  revert c; decide +kernel

omit [FloatOps F] in
/-- A conjunction over the chunks is the own chunk's and one over the chunks the hops bring. -/
theorem sep_chunks (c : Dev nD) (Φ : Dev nD → sProp 𝕄) :
    bigSep Finset.univ Φ = iprop(Φ (nxt c) ∗ bigSep Finset.univ fun s : Fin 15 => Φ (back s.val c)) := by
  rw [sep_take (Finset.mem_univ (nxt c)), chunks_erase, BI.bigSep_map]
  rfl

/-! ## The two buffers cut and joined -/

theorem slots_disjoint (s t : Fin 15) (h : s ≠ t) : Disjoint (slotR s).set (slotR t).set :=
  Ring.lead_disjoint (s := S15x128x1024) (0 : Fin 3) 1 (fun s : Fin 15 => ![s.val, 0, 0]) S1x128x1024.size slot_inb (fun s => (Nat.one_mul _).symm) rfl s t h
theorem slots_cover : Finset.univ.biUnion (fun s : Fin 15 => (slotR s).set) = Finset.univ :=
  Ring.lead_cover (s := S15x128x1024) (0 : Fin 3) 1 (fun s : Fin 15 => ![s.val, 0, 0]) S1x128x1024.size slot_inb (fun s => (Nat.one_mul _).symm)
    (by decide) rfl (by decide) (by decide)
theorem chunks_disjoint (s t : Dev nD) (h : s ≠ t) : Disjoint (chunkR s).set (chunkR t).set :=
  Ring.lead_disjoint (s := S2048x1024) (0 : Fin 2) 128 (fun s : Fin 16 => ![128 * s.val, 0]) S128x1024.size chunk_inb (fun s => rfl) rfl s t h
theorem chunks_cover : Finset.univ.biUnion (fun s : Dev nD => (chunkR s).set) = Finset.univ :=
  Ring.lead_cover (s := S2048x1024) (0 : Fin 2) 128 (fun s : Fin 16 => ![128 * s.val, 0]) S128x1024.size chunk_inb (fun s => rfl)
    (by decide) rfl (by decide) (by decide)

/-- A view of device `d`'s memory held at some contents. -/
def someAt (d : Dev nD) (M : Memref sig .tc .vmem S128x1024 .bf16) : sProp 𝕄 :=
  iprop(∃ f, (M.view.loc (d : Thread nD τ) ↦[M.view.set]{fullShare} f))
omit [FloatOps F] in
theorem landing_eq (c : Dev nD) (h : Fin 30) : (landing c h : sProp 𝕄) = someAt (nxt c) (hopDst c h) := rfl
theorem owns_some (d : Dev nD) (M : Memref sig .tc .vmem S128x1024 .bf16) (X) : owns (d : Thread nD τ) M fullShare X ⊢ (someAt d M : sProp 𝕄) := by
  unfold owns someAt
  iintro ⟨%f, -, H⟩
  iexists f; iexact H

abbrev accLoc (c : Dev nD) : Loc nD τ sig := (c : Thread nD τ).loc cc0_scratch0
abbrev rsLoc (c : Dev nD) : Loc nD τ sig := (c : Thread nD τ).loc cc0_scratch1
abbrev sndLoc (c : Dev nD) : Loc nD τ sig := (c : Thread nD τ).loc cc0_scratch2
abbrev agLoc (c : Dev nD) : Loc nD τ sig := (c : Thread nD τ).loc cc0_scratch3

omit [FloatOps F] in
theorem some_slot (d : Dev nD) (s : Fin 15) : (someAt d (slotM s) : sProp 𝕄) = iprop(∃ f : Buf (Elt F) (rsLoc d), (rsLoc d ↦[(slotR s).set]{fullShare} f)) := by
  unfold someAt
  rw [← slot_set]
omit [FloatOps F] in
theorem some_chunk (d : Dev nD) (k : Dev nD) : (someAt d (chunkM k) : sProp 𝕄) = iprop(∃ f : Buf (Elt F) (agLoc d), (agLoc d ↦[(chunkR k).set]{fullShare} f)) := by
  unfold someAt
  rw [← chunk_set]

omit [FloatOps F] in
theorem slots_of (d : Dev nD) (f : Buf (Elt F) (rsLoc d)) : (rsLoc d ↦{fullShare} f) ⊢ (bigSep Finset.univ fun s : Fin 15 => someAt d (slotM s) : sProp 𝕄) := by
  rw [Ring.pointsTo_blocks (ℓ := rsLoc d) (fun s : Fin 15 => (slotR s).set) slots_disjoint slots_cover f]
  have key (s : Fin 15) : (rsLoc d ↦[(slotR s).set]{fullShare} f) ⊢ (someAt d (slotM s) : sProp 𝕄) := by
    rw [some_slot]
    iintro H; iexists f; iexact H
  exact bigSep_mono fun s _ => key s
omit [FloatOps F] in
theorem of_slots (d : Dev nD) (f : Buf (Elt F) (rsLoc d)) :
    (bigSep Finset.univ fun s : Fin 15 => (someAt d (slotM s) : sProp 𝕄)) ⊢ iprop(∃ f : Buf (Elt F) (rsLoc d), (rsLoc d ↦{fullShare} f)) := by
  rw [bigSep_congr (s := Finset.univ) fun s _ => some_slot (F := F) d s]
  exact Ring.pointsTo_blocks_join_exists (ℓ := rsLoc d) (fun s : Fin 15 => (slotR s).set) slots_disjoint slots_cover f
omit [FloatOps F] in
theorem chunks_of (d : Dev nD) (f : Buf (Elt F) (agLoc d)) : (agLoc d ↦{fullShare} f) ⊢ (bigSep Finset.univ fun k : Dev nD => someAt d (chunkM k) : sProp 𝕄) := by
  rw [Ring.pointsTo_blocks (ℓ := agLoc d) (fun k : Dev nD => (chunkR k).set) chunks_disjoint chunks_cover f]
  have key (k : Dev nD) : (agLoc d ↦[(chunkR k).set]{fullShare} f) ⊢ (someAt d (chunkM k) : sProp 𝕄) := by
    rw [some_chunk]
    iintro H; iexists f; iexact H
  exact bigSep_mono fun k _ => key k

/-- A chunk held with the finished contents is held as part of the gathered buffer; -/
theorem owns_gathered (d k : Dev nD) : owns (d : Thread nD τ) (chunkM k) fullShare (finChunk m ρ k) ⊢ (agLoc d ↦[(chunkR k).set]{fullShare} gathered m ρ : sProp 𝕄) := by
  unfold owns
  iintro ⟨%f, %hf, H⟩
  rw [← chunk_set]
  iapply (Entails.of_eq (pointsTo_congr fun i hi => by
    obtain ⟨x, -, rfl⟩ := Finset.mem_map.mp hi
    exact View.eq_of_read_eq (congrFun (hf.trans (gathered_read m ρ k).symm) x))); iexact H
/-- all sixteen are the gathered buffer. -/
theorem of_chunks (d : Dev nD) :
    (bigSep Finset.univ fun k : Dev nD => owns (d : Thread nD τ) (chunkM k) fullShare (finChunk m ρ k) : sProp 𝕄) ⊢ (agLoc d ↦{fullShare} gathered m ρ) := by
  rw [Ring.pointsTo_blocks (ℓ := agLoc d) (fun k : Dev nD => (chunkR k).set) chunks_disjoint chunks_cover (gathered m ρ)]
  exact bigSep_mono fun k _ => owns_gathered m ρ d k

omit [FloatOps F] in
/-- What device `c` hands over at the barrier, cut from its two buffers, and the chunk it keeps. -/
theorem barPay_of (c : Dev nD) (f : Buf (Elt F) (rsLoc c)) (g : Buf (Elt F) (agLoc c)) :
    iprop((rsLoc c ↦{fullShare} f) ∗ (agLoc c ↦{fullShare} g)) ⊢ iprop(barPay (F := F) (prv c) ∗ someAt c (chunkM (nxt c))) := by
  unfold barPay
  rw [sep_halves]
  simp only [landing_eq, hopDst_rs, hopDst_ag, nxt_prv]
  iintro ⟨Hf, Hg⟩
  ihave Hf := (slots_of c f) $$ Hf
  ihave Hg := ((chunks_of c g).trans (Entails.of_eq (sep_chunks c fun k => someAt c (chunkM k)))) $$ Hg
  icases Hg with ⟨Ho, Hg⟩
  isplitr [Ho]
  · isplitl [Hf] <;> iassumption
  iexact Ho

/-- After the last hop the two buffers are whole again, the all-gather buffer complete. -/
theorem St_end (c : Dev nD) :
    iprop(St m ρ c 30 ∗ sendPay m ρ c (agHop 0))
      ⊢ iprop(owesFrom c 30 ∗ (bigSep Finset.univ fun h : Fin 30 => closed c h) ∗ (∃ f : Buf (Elt F) (rsLoc c), (rsLoc c ↦{fullShare} f)) ∗ (agLoc c ↦{fullShare} gathered m ρ)) := by
  unfold St Ahead passed
  rw [show (Finset.univ.filter fun h : Fin 30 => h.val < 30) = Finset.univ from by decide, BI.bigSep_sep', sep_halves (fun h => recvPay m ρ c h)]
  simp only [recvPay_rs, recvPay_ag, sendPay_ag, show ((0 : Fin 15).val) = 0 from rfl, back_zero]
  iintro ⟨⟨⟨Ho, -⟩, ⟨Hs, Hk⟩, Hz⟩, Hown⟩
  isplitl [Ho]; · iexact Ho
  isplitl [Hz]; · iexact Hz
  isplitl [Hs]
  · iapply (of_slots c (fun _ => (Scalar.ofBits .bf16 0x0000#16 : F .bf16)))
    iapply (show (bigSep Finset.univ fun s : Fin 15 => owns (c : Thread nD τ) (slotM s) fullShare (rsSent m ρ s.val (prv c)) : sProp 𝕄)
      ⊢ bigSep Finset.univ fun s : Fin 15 => someAt c (slotM s) from bigSep_mono fun s _ => owns_some c (slotM s) _); iexact Hs
  iapply (of_chunks m ρ c)
  rw [sep_chunks c]
  isplitl [Hown] <;> iassumption

end Cert.RingIdeal

end
-- ==== Proof.Ideal.Steps.lean ====
/-
# The steps between the hops

The barrier's handshake, the eight experts' products and what a device puts in its send buffer, each as one rule.
-/
module

public import proofs.«01_k».proof.Proof.Ideal.Halves

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Fin 30) → ℕ)

/-! ## The barrier -/

/-- The handshake: `c` hands its landing places to its left and gets those of its right. -/
theorem wp_barrier (c a b : Dev nD) (ha : a = prv c) (hb : b = nxt c) {α : Type} {Q : α → sProp 𝕄}
    {k : PUnit → Prog (TpuEff nD τ sig (Elt F) Λ₀ .tc) α} (W : Waits sig Unit) (f : Buf (Elt F) (rsLoc c)) (g : Buf (Elt F) (agLoc c)) :
    iprop(records m ρ K ∗ levAts L lv ∗ atPos ER (barCell c) 0 ∅ 0 ∗ dutyTok ER (barCell (nxt c)) 0 false ∗ dutyTok ER (barCell (prv c)) 0 true
        ∗ cred (tallyAt (barCell c) () 2) ∗ (bigSep Finset.univ fun h : Fin 30 => ticket c h) ∗ owes (c : Thread nD τ) (O₀ c) W
        ∗ (rsLoc c ↦{fullShare} f) ∗ (agLoc c ↦{fullShare} g))
      ⊢ iprop(((St m ρ c 0 ∗ someAt c (chunkM (nxt c)) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (a, .tc) barS (1#32 : BitVec 32).toInt) fun _ => .op (.semSignal (b, .tc) barS (1#32 : BitVec 32).toInt) fun _ =>
                .op (.semWait barS (2#32 : BitVec 32).toInt) k) Q) := by
  subst ha hb
  iintro ⟨#HR, #Hlev, Hat, HtN, HtP, HcB, Htk, HO, Hf, Hg⟩
  iintro Hk
  ihave Hb := (barPay_of c f g) $$ [Hf Hg]
  · isplitl [Hf] <;> iassumption
  icases Hb with ⟨Hpay, Hown⟩
  unfold O₀
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP Hpay]
  · isplitr; · iapply (inv_at m ρ K (prv c, none)); iexact HR
    isplitl [HO]; · iexact HO
    isplitl [HtP]; · iexact HtP
    isplitl [Hpay]; · rw [payload_bar_true]; iexact Hpay
    iapply (reached_at m ρ K (prv c, none)); iexact HR
  iintro HO
  unfold O₁
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (owedFrom c 0) rfl)
    $$ [HO HtN]
  · isplitr; · iapply (inv_at m ρ K (nxt c, none)); iexact HR
    isplitl [HO]; · iexact HO
    isplitl [HtN]; · iexact HtN
    isplitr; · rw [payload_bar_false]; iempintro
    iapply (reached_at m ρ K (nxt c, none)); iexact HR
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [HcB HO Hat]
  · isplitr; · iapply (inv_at m ρ K (c, none)); iexact HR
    isplitl [HcB]; · iexact HcB
    isplitl [HO]; · iexact HO
    isplitr; · iapply (mayWait_owed c (.reg barS) 0 (by show (1 : ℕ) < 2 + 0; decide)); iexact Hlev
    iexact Hat
  iintro ⟨HO, Hat, -, Hpay⟩
  ihave Hp := (Entails.of_eq (rest_bar m ρ c)) $$ Hpay
  icases Hp with ⟨-, Hland⟩
  imod (Rounds.cell_close ER (ringRd m ρ) (Set.mem_univ (K (c, none))) (fun h => h) (R := 0 + 1) (duties_later m ρ (barCell c))) $$ [Hat] with HzB
  · isplitr; · iapply (inv_at m ρ K (c, none)); iexact HR
    iexact Hat
  iapply Hk
  isplitr [Hown HzB]
  · unfold St Ahead owesFrom
    rw [show (Finset.univ.filter fun h : Fin 30 => 0 ≤ h.val) = Finset.univ from by decide,
      show (Finset.univ.filter fun h : Fin 30 => h.val < 0) = ∅ from by decide, BI.bigSep_empty]
    isplitl
    · isplitl [HO]; · iexists _; iexact HO
      unfold ready barPay
      iapply (Entails.of_eq (BI.bigSep_sep' Finset.univ (fun h : Fin 30 => ticket c h) fun h => landing c h).symm)
      isplitl [Htk] <;> iassumption
    · iempintro
  isplitl [Hown] <;> iassumption

/-! ## The accumulator -/

abbrev wLoc (c : Dev nD) : Loc nD τ sig := (c : Thread nD τ).loc cc0_stg3_0
abbrev accWR : Rect S2048x1024 := Rect.unit (s := S2048x1024) ![0, 0] S2048x1024.size inb_S2048x1024_S2048x1024_0_0
abbrev sndMR : Rect S1x128x1024 := sndR

omit [FloatOps F] in
theorem acc_read (f : (cc0_scratch0 : Ref sig .tc).ty.Contents (Elt F)) : (accM : Memref sig .tc .vmem S2048x1024 .f32).view.readAt (Elt F) accWR.toLoadRect f = f :=
  Memref.readAt_unit_zero (Elt F) cc0_scratch0 zero2 _ f
omit [FloatOps F] in
theorem acc_write (f w : (cc0_scratch0 : Ref sig .tc).ty.Contents (Elt F)) :
    ((accM : Memref sig .tc .vmem S2048x1024 .f32).access accWR : View sig .tc _ _ _).write (Elt F) f w Finset.univ = w :=
  Memref.write_access_unit_zero_univ (Elt F) cc0_scratch0 zero2 _ f w
omit [FloatOps F] in
theorem snd_write (f w : (cc0_scratch2 : Ref sig .tc).ty.Contents (Elt F)) :
    ((sndM : Memref sig .tc .vmem S1x128x1024 .bf16).access sndR : View sig .tc _ _ _).write (Elt F) f w Finset.univ = w :=
  Memref.write_access_unit_zero_univ (Elt F) cc0_scratch2 zero3 _ f w

/-- The first expert: its product into the accumulator, whatever that held. -/
theorem wp_first (c : Dev nD) (f : Buf (Elt F) (accLoc c)) (v : Vec F S2048x1024 .f32)
    (off : Fin 3 → ℕ) (inb : ∀ a, off a + S1x512x1024.size a ≤ S8x512x1024.size a) (hoff : off = ![(0 : Fin 8).val, 0, 0])
    (g : Vec F S1x512x1024 .bf16 → Vec F S2048x1024 .f32) (hg : g (slab m ρ c 0) = v)
    {h₁ : (wM : Memref sig .tc .vmem S8x512x1024 .bf16).view.LoadsAt (Rect.unit (s := S8x512x1024) off S1x512x1024.size inb).toLoadRect}
    {h₂ : (accM : Memref sig .tc .vmem S2048x1024 .f32).view.LoadsAt accWR.toLoadRect}
    {h₃ : ((accM : Memref sig .tc .vmem S2048x1024 .f32).access accWR).Stores Finset.univ} {h₄ : (Finset.univ : Finset accWR.shape.Idx) = Finset.univ ∨ ∀ a, accWR.stride a = 1}
    {α : Type} {Q : α → sProp 𝕄} {k : PUnit → Prog (TpuEff nD τ sig (Elt F) Λ₀ .tc) α} :
    iprop((wLoc c ↦{fullShare} wStg m ρ c) ∗ (accLoc c ↦{fullShare} f))
      ⊢ iprop((((wLoc c ↦{fullShare} wStg m ρ c) ∗ (accLoc c ↦{fullShare} v))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load wM (Rect.unit (s := S8x512x1024) off S1x512x1024.size inb).toLoadRect h₁) fun b => .op (.load accM accWR.toLoadRect h₂) fun _ =>
                .op (.store accM accWR (g b) Finset.univ h₃ h₄) k) Q) := by
  subst hoff hg
  iintro ⟨Hw, Ha⟩
  iintro Hk
  iapply (wp_load 𝒱₀ (c : Thread nD τ) none Set.univ (m := wM) (Finset.subset_univ _)) $$ Hw; iintro Hw
  iapply (wp_load 𝒱₀ (c : Thread nD τ) none Set.univ (m := accM) (Finset.subset_univ _)) $$ Ha; iintro Ha
  iapply (wp_store 𝒱₀ (c : Thread nD τ) none Set.univ (m := accM) (r := accWR) (Mk := Finset.univ) (Finset.subset_univ _)) $$ Ha; iintro Ha
  rw [acc_write]
  iapply Hk
  isplitl [Hw]; · iexact Hw
  iexact Ha

/-- A later expert: its product added. -/
theorem wp_expert (c : Dev nD) (n : ℕ) (e : Fin 8) (he : e.val = n + 1)
    (off : Fin 3 → ℕ) (inb : ∀ a, off a + S1x512x1024.size a ≤ S8x512x1024.size a) (hoff : off = ![e.val, 0, 0])
    (g : Vec F S1x512x1024 .bf16 → Vec F S2048x1024 .f32 → Vec F S2048x1024 .f32)
    (hg : ∀ b a, g b a = addExpert e (k0_pay1 (xStg m ρ c)) (wts m ρ c) b a)
    {h₁ : (wM : Memref sig .tc .vmem S8x512x1024 .bf16).view.LoadsAt (Rect.unit (s := S8x512x1024) off S1x512x1024.size inb).toLoadRect}
    {h₂ h₂' : (accM : Memref sig .tc .vmem S2048x1024 .f32).view.LoadsAt accWR.toLoadRect}
    {h₃ : ((accM : Memref sig .tc .vmem S2048x1024 .f32).access accWR).Stores Finset.univ} {h₄ : (Finset.univ : Finset accWR.shape.Idx) = Finset.univ ∨ ∀ a, accWR.stride a = 1}
    {α : Type} {Q : α → sProp 𝕄} {k : PUnit → Prog (TpuEff nD τ sig (Elt F) Λ₀ .tc) α} :
    iprop((wLoc c ↦{fullShare} wStg m ρ c) ∗ (accLoc c ↦{fullShare} accAt m ρ c n))
      ⊢ iprop((((wLoc c ↦{fullShare} wStg m ρ c) ∗ (accLoc c ↦{fullShare} accAt m ρ c (n + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load wM (Rect.unit (s := S8x512x1024) off S1x512x1024.size inb).toLoadRect h₁) fun b => .op (.load accM accWR.toLoadRect h₂) fun a =>
                .op (.load accM accWR.toLoadRect h₂') fun _ => .op (.store accM accWR (g b a) Finset.univ h₃ h₄) k) Q) := by
  have hn : n + 1 < 8 := he ▸ e.isLt
  have hE : e = ⟨n + 1, hn⟩ := Fin.ext he
  subst hoff
  iintro ⟨Hw, Ha⟩
  iintro Hk
  iapply (wp_load 𝒱₀ (c : Thread nD τ) none Set.univ (m := wM) (Finset.subset_univ _)) $$ Hw; iintro Hw
  iapply (wp_load 𝒱₀ (c : Thread nD τ) none Set.univ (m := accM) (Finset.subset_univ _)) $$ Ha; iintro Ha
  rw [acc_read]
  iapply (wp_load 𝒱₀ (c : Thread nD τ) none Set.univ (m := accM) (Finset.subset_univ _)) $$ Ha; iintro Ha
  iapply (wp_store 𝒱₀ (c : Thread nD τ) none Set.univ (m := accM) (r := accWR) (Mk := Finset.univ) (Finset.subset_univ _)) $$ Ha; iintro Ha
  rw [acc_write, hg]
  iapply Hk
  isplitl [Hw]; · iexact Hw
  rw [show accAt m ρ c (n + 1) = addExpert e (k0_pay1 (xStg m ρ c)) (wts m ρ c) (slab m ρ c e) (accAt m ρ c n) from by
    rw [hE]; show (if h : n + 1 < 8 then _ else _) = _; rw [dif_pos hn]]
  iexact Ha

/-! ## What a device sends -/

/-- The send buffer at the chunk to be sent. -/
theorem send_ready (c : Dev nD) (s : Fin 15) (w : FVec F S128x1024 .bf16) (hw : rsSent m ρ s.val c = w)
    (f : Buf (Elt F) (sndLoc c)) (hf : f = shapeCast S1x128x1024 w shapeCasts_S128x1024_S1x128x1024) :
    (sndLoc c ↦{fullShare} f) ⊢ sendPay m ρ c (rsHop s) := by
  rw [sendPay_rs]; unfold owns
  rw [src_set]
  iintro H
  iexists f
  isplitr
  · ipureintro; rw [src_read, hf]; exact (shapeCast_shapeCast w _ _).trans hw.symm
  iexact H
/-- The send buffer after a hop. -/
theorem send_back (c : Dev nD) (s : Fin 15) : sendPay m ρ c (rsHop s) ⊢ iprop(∃ f : Buf (Elt F) (sndLoc c), (sndLoc c ↦{fullShare} f)) := by
  rw [sendPay_rs]; unfold owns
  rw [src_set]
  iintro ⟨%f, -, H⟩
  iexists f; iexact H

omit [FloatOps F] in
theorem slot_reach (s : Fin 15) : (rsM : Memref sig .tc .vmem S15x128x1024 .bf16).view.setOn (slotR s).toLoadRect.set ⊆ (slotM s).view.set := by
  rw [slot_set]; intro x hx; obtain ⟨y, hy, rfl⟩ := Finset.mem_map.mp hx; exact hy
omit [FloatOps F] in
theorem chunk_reach (k : Dev nD) : (agM : Memref sig .tc .vmem S2048x1024 .bf16).view.setOn (chunkR k).toLoadRect.set ⊆ (chunkM k).view.set := by
  rw [chunk_set]; intro x hx; obtain ⟨y, hy, rfl⟩ := Finset.mem_map.mp hx; exact hy

/-- Before hop 0: the own partial sum of chunk `c`, rounded, into the send buffer. -/
theorem wp_fill0 (c : Dev nD) (f : Buf (Elt F) (sndLoc c))
    (off : Fin 2 → ℕ) (inb : ∀ a, off a + S128x1024.size a ≤ S2048x1024.size a) (hoff : off = ![128 * (back 0 c).val, 0])
    (g : Vec F S128x1024 .f32 → Vec F S1x128x1024 .bf16)
    (hg : ∀ a, g a = shapeCast S1x128x1024 (truncf .bf16 a bitsLt_bf16_f32) shapeCasts_S128x1024_S1x128x1024)
    {h₁ : (accM : Memref sig .tc .vmem S2048x1024 .f32).view.LoadsAt (Rect.unit (s := S2048x1024) off S128x1024.size inb).toLoadRect}
    {h₂ : (sndM : Memref sig .tc .vmem S1x128x1024 .bf16).view.LoadsAt sndR.toLoadRect}
    {h₃ : ((sndM : Memref sig .tc .vmem S1x128x1024 .bf16).access sndR).Stores Finset.univ} {h₄ : (Finset.univ : Finset sndR.shape.Idx) = Finset.univ ∨ ∀ a, sndR.stride a = 1}
    {α : Type} {Q : α → sProp 𝕄} {k : PUnit → Prog (TpuEff nD τ sig (Elt F) Λ₀ .tc) α} :
    iprop((accLoc c ↦{fullShare} accV m ρ c) ∗ (sndLoc c ↦{fullShare} f))
      ⊢ iprop((((accLoc c ↦{fullShare} accV m ρ c) ∗ sendPay m ρ c (rsHop 0))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (Rect.unit (s := S2048x1024) off S128x1024.size inb).toLoadRect h₁) fun a => .op (.load sndM sndR.toLoadRect h₂) fun _ =>
                .op (.store sndM sndR (g a) Finset.univ h₃ h₄) k) Q) := by
  subst hoff
  iintro ⟨Ha, Hs⟩
  iintro Hk
  iapply (wp_load 𝒱₀ (c : Thread nD τ) none Set.univ (m := accM) (Finset.subset_univ _)) $$ Ha; iintro Ha
  iapply (wp_load 𝒱₀ (c : Thread nD τ) none Set.univ (m := sndM) (Finset.subset_univ _)) $$ Hs; iintro Hs
  iapply (wp_store 𝒱₀ (c : Thread nD τ) none Set.univ (m := sndM) (r := sndR) (Mk := Finset.univ) (Finset.subset_univ _)) $$ Hs; iintro Hs
  rw [snd_write]
  iapply Hk
  isplitl [Ha]; · iexact Ha
  iapply (send_ready m ρ c 0 (truncf .bf16 (accChunk m ρ c (back 0 c)) bitsLt_bf16_f32) rfl _ (hg _)); iexact Hs

/-- Before hop `t = s + 1`: what landed in hop `s` plus the own partial sum, rounded, into the send buffer. -/
theorem wp_fill (c : Dev nD) (s t : Fin 15) (hst : t.val = s.val + 1)
    (off : Fin 2 → ℕ) (inb : ∀ a, off a + S128x1024.size a ≤ S2048x1024.size a) (hoff : off = ![128 * (back t.val c).val, 0])
    (off' : Fin 3 → ℕ) (inb' : ∀ a, off' a + S1x128x1024.size a ≤ S15x128x1024.size a) (hoff' : off' = ![s.val, 0, 0])
    (g : Vec F S128x1024 .f32 → Vec F S1x128x1024 .bf16 → Vec F S1x128x1024 .bf16)
    (hg : ∀ a X, g a X = shapeCast S1x128x1024 (combine (shapeCast S128x1024 X shapeCasts_S1x128x1024_S128x1024) a) shapeCasts_S128x1024_S1x128x1024)
    {h₁ : (accM : Memref sig .tc .vmem S2048x1024 .f32).view.LoadsAt (Rect.unit (s := S2048x1024) off S128x1024.size inb).toLoadRect}
    {h₁' : (rsM : Memref sig .tc .vmem S15x128x1024 .bf16).view.LoadsAt (Rect.unit (s := S15x128x1024) off' S1x128x1024.size inb').toLoadRect}
    {h₂ : (sndM : Memref sig .tc .vmem S1x128x1024 .bf16).view.LoadsAt sndR.toLoadRect}
    {h₃ : ((sndM : Memref sig .tc .vmem S1x128x1024 .bf16).access sndR).Stores Finset.univ} {h₄ : (Finset.univ : Finset sndR.shape.Idx) = Finset.univ ∨ ∀ a, sndR.stride a = 1}
    {α : Type} {Q : α → sProp 𝕄} {k : PUnit → Prog (TpuEff nD τ sig (Elt F) Λ₀ .tc) α} :
    iprop((accLoc c ↦{fullShare} accV m ρ c) ∗ St m ρ c (s.val + 1) ∗ sendPay m ρ c (rsHop s))
      ⊢ iprop((((accLoc c ↦{fullShare} accV m ρ c) ∗ St m ρ c t.val ∗ sendPay m ρ c (rsHop t))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (Rect.unit (s := S2048x1024) off S128x1024.size inb).toLoadRect h₁) fun a =>
                .op (.load rsM (Rect.unit (s := S15x128x1024) off' S1x128x1024.size inb').toLoadRect h₁') fun X => .op (.load sndM sndR.toLoadRect h₂) fun _ =>
                .op (.store sndM sndR (g a X) Finset.univ h₃ h₄) k) Q) := by
  subst hoff hoff'
  iintro ⟨Ha, HSt, Hs⟩
  iintro Hk
  ihave Hs := (send_back m ρ c s) $$ Hs
  icases Hs with ⟨%f, Hs⟩
  ihave HSt := (St_peek m ρ c (s.val + 1) (rsHop s) (Nat.lt_succ_self _)) $$ HSt
  rw [recvPay_rs]
  icases HSt with ⟨Hr, Hback⟩
  unfold owns
  icases Hr with ⟨%X, %hX, Hr⟩
  iapply (wp_load 𝒱₀ (c : Thread nD τ) none Set.univ (m := accM) (Finset.subset_univ _)) $$ Ha; iintro Ha
  iapply (wp_load 𝒱₀ (c : Thread nD τ) none Set.univ (m := rsM) (S := (slotM s).view.set) (slot_reach s)) $$ Hr; iintro Hr
  iapply (wp_load 𝒱₀ (c : Thread nD τ) none Set.univ (m := sndM) (Finset.subset_univ _)) $$ Hs; iintro Hs
  iapply (wp_store 𝒱₀ (c : Thread nD τ) none Set.univ (m := sndM) (r := sndR) (Mk := Finset.univ) (Finset.subset_univ _)) $$ Hs; iintro Hs
  rw [snd_write, hg]
  iapply Hk
  isplitl [Ha]; · iexact Ha
  isplitr [Hs]
  · rw [hst]; iapply Hback
    iexists X; isplitr; · ipureintro; exact hX
    iexact Hr
  iapply (send_ready m ρ c t (combine (rsSent m ρ s.val (prv c)) (accChunk m ρ c (back t.val c))) (by rw [hst]; rfl) _ rfl)
    $$ [Hs]
  have hx : shapeCast S128x1024 ((rsM : Memref sig .tc .vmem S15x128x1024 .bf16).view.readAt (Elt F) (slotR s).toLoadRect X) shapeCasts_S1x128x1024_S128x1024
      = rsSent m ρ s.val (prv c) := (slot_read s X).trans hX
  rw [← hx]; iexact Hs

/-- After hop 14: what landed plus the own partial sum of chunk `nxt c`, rounded, into its place in the all-gather buffer. -/
theorem wp_finish (c : Dev nD)
    (off : Fin 2 → ℕ) (inb : ∀ a, off a + S128x1024.size a ≤ S2048x1024.size a) (hoff : off = ![128 * (nxt c).val, 0])
    (off' : Fin 3 → ℕ) (inb' : ∀ a, off' a + S1x128x1024.size a ≤ S15x128x1024.size a) (hoff' : off' = ![(14 : Fin 15).val, 0, 0])
    (g : Vec F S1x128x1024 .bf16 → Vec F S128x1024 .f32 → Vec F S128x1024 .bf16)
    (hg : ∀ X a, g X a = shapeCast S128x1024 (combine (shapeCast S128x1024 X shapeCasts_S1x128x1024_S128x1024) a) shapeCasts_S128x1024_S128x1024)
    {h₁ : (accM : Memref sig .tc .vmem S2048x1024 .f32).view.LoadsAt (Rect.unit (s := S2048x1024) off S128x1024.size inb).toLoadRect}
    {h₁' : (rsM : Memref sig .tc .vmem S15x128x1024 .bf16).view.LoadsAt (Rect.unit (s := S15x128x1024) off' S1x128x1024.size inb').toLoadRect}
    {h₂ : (agM : Memref sig .tc .vmem S2048x1024 .bf16).view.LoadsAt (Rect.unit (s := S2048x1024) off S128x1024.size inb).toLoadRect}
    {h₃ : ((agM : Memref sig .tc .vmem S2048x1024 .bf16).access (Rect.unit (s := S2048x1024) off S128x1024.size inb)).Stores Finset.univ}
    {h₄ : (Finset.univ : Finset (Rect.unit (s := S2048x1024) off S128x1024.size inb).shape.Idx) = Finset.univ ∨ ∀ a, (Rect.unit (s := S2048x1024) off S128x1024.size inb).stride a = 1}
    {α : Type} {Q : α → sProp 𝕄} {k : PUnit → Prog (TpuEff nD τ sig (Elt F) Λ₀ .tc) α} :
    iprop((accLoc c ↦{fullShare} accV m ρ c) ∗ St m ρ c 15 ∗ someAt c (chunkM (nxt c)))
      ⊢ iprop((((accLoc c ↦{fullShare} accV m ρ c) ∗ St m ρ c 15 ∗ sendPay m ρ c (agHop 0))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load rsM (Rect.unit (s := S15x128x1024) off' S1x128x1024.size inb').toLoadRect h₁') fun X =>
                .op (.load accM (Rect.unit (s := S2048x1024) off S128x1024.size inb).toLoadRect h₁) fun a =>
                .op (.load agM (Rect.unit (s := S2048x1024) off S128x1024.size inb).toLoadRect h₂) fun _ =>
                .op (.store agM (Rect.unit (s := S2048x1024) off S128x1024.size inb) (g X a) Finset.univ h₃ h₄) k) Q) := by
  subst hoff hoff'
  iintro ⟨Ha, HSt, Ho⟩
  iintro Hk
  ihave HSt := (St_peek m ρ c 15 (rsHop 14) (by decide)) $$ HSt
  rw [recvPay_rs]
  icases HSt with ⟨Hr, Hback⟩
  unfold owns someAt
  icases Hr with ⟨%X, %hX, Hr⟩
  icases Ho with ⟨%f, Ho⟩
  iapply (wp_load 𝒱₀ (c : Thread nD τ) none Set.univ (m := rsM) (S := (slotM 14).view.set) (slot_reach 14)) $$ Hr; iintro Hr
  iapply (wp_load 𝒱₀ (c : Thread nD τ) none Set.univ (m := accM) (Finset.subset_univ _)) $$ Ha; iintro Ha
  iapply (wp_load 𝒱₀ (c : Thread nD τ) none Set.univ (m := agM) (S := (chunkM (nxt c)).view.set) (chunk_reach _)) $$ Ho; iintro Ho
  iapply (wp_store 𝒱₀ (c : Thread nD τ) none Set.univ (m := agM) (r := chunkR (nxt c)) (Mk := Finset.univ) (S := (chunkM (nxt c)).view.set) (by exact fun _ h => h)) $$ Ho; iintro Ho
  rw [hg]
  iapply Hk
  isplitl [Ha]; · iexact Ha
  isplitr [Ho]
  · iapply Hback
    iexists X; isplitr; · ipureintro; exact hX
    iexact Hr
  rw [sendPay_ag, show ((0 : Fin 15).val) = 0 from rfl, back_zero]
  unfold owns
  iexists _
  isplitr
  swap
  · iexact Ho
  · ipureintro
    refine (View.read_write_univ (v := (chunkM (nxt c)).view) _ _).trans ?_
    rw [shapeCast_self, slot_read, hX]
    unfold finChunk
    rw [prv_nxt]; rfl

/-! ## A hop with what follows it -/

theorem sem_inb (s : Fin 15) : ∀ a, (![s.val] : Fin 1 → ℕ) a + S1.size a ≤ S15.size a := by revert s; decide
/-- Semaphore `s` of an array of fifteen. -/
abbrev semOf (A : DmaSems sig S15) (s : Fin 15) : DmaSem sig :=
  ((A.slice (Rect.unit (s := S15) ![s.val] S1.size (sem_inb s))).squeeze S_ squeezes_S1_S_).sem
theorem sem_rs_send (s : Fin 15) : semOf cc0_scratch4 s = sendS (rsHop s) := by revert s; decide
theorem sem_rs_recv (s : Fin 15) : semOf cc0_scratch5 s = recvS (rsHop s) := by revert s; decide
theorem sem_ag_send (s : Fin 15) : semOf cc0_scratch6 s = sendS (agHop s) := by revert s; decide
theorem sem_ag_recv (s : Fin 15) : semOf cc0_scratch7 s = recvS (agHop s) := by revert s; decide
theorem credit_any (b : Memref sig .tc .vmem S128x1024 .bf16) : b.view.dmaCredit = N := rfl

theorem off1_eq (c : Dev nD) (r : Fin 15) : k0_off1 c (BitVec.ofNat 32 r.val) = ![128 * (back r.val c).val, 0] := k0_off1_eq c r
theorem off3_eq (c : Dev nD) (r : Fin 15) : k0_off3 c (BitVec.ofNat 32 r.val) = ![128 * (back r.val (nxt c)).val, 0] := by
  rw [k0_off3_eq c r, show (c.val + 17 - r.val) % 16 = (back r.val (nxt c)).val from by
    have : c.val < 16 := c.isLt
    have := r.isLt
    show _ = ((c.val + 1) % 16 + 16 - r.val) % 16; omega]
/-- The chunk all-gather hop `r` names, as the program names it. -/
abbrev agV (c : Dev nD) (r : Fin 15) : Memref sig .tc .vmem S128x1024 .bf16 :=
  agM.slice (Rect.unit (s := S2048x1024) (k0_off3 c (BitVec.ofNat 32 r.val)) S128x1024.size (k0_off3_inb c r)) (fun _ => rfl)
theorem agV_eq (c : Dev nD) (r : Fin 15) : agV c r = chunkM (back r.val (nxt c)) := Memref.slice_unit_congr _ (off3_eq c r) _ _ _ _
/-- The partial sums' chunk added before reduce-scatter hop `r`, as the program names it. -/
abbrev accR (c : Dev nD) (r : Fin 15) : Rect S2048x1024 :=
  Rect.unit (s := S2048x1024) (k0_off1 c (BitVec.ofNat 32 r.val)) S128x1024.size (k0_off1_inb c r)

/-- What a device holds before reduce-scatter hop `s`, the send buffer filled; -/
def rsAt (c : Dev nD) (s : Fin 15) : sProp 𝕄 :=
  iprop(records m ρ K ∗ levAts L lv ∗ (accLoc c ↦{fullShare} accV m ρ c) ∗ St m ρ c s.val ∗ sendPay m ρ c (rsHop s))
/-- what it holds before all-gather hop `i` (15 after the last), its own finished chunk in place. -/
def agAt (c : Dev nD) (i : ℕ) : sProp 𝕄 := iprop(records m ρ K ∗ levAts L lv ∗ St m ρ c (15 + i) ∗ sendPay m ρ c (agHop 0))

section Hop
variable {α : Type} (c : Dev nD) (s : Fin 15) (d : ℕ) (hd : d = (c.val + 1) % 16) {hd' : d < nD}
  {a₁ b₁ a₂ b₂ : Memref sig .tc .vmem S128x1024 .bf16}
  {ha₁ : a₁.view.WordExact} {hb₁' : b₁.view.WordExact} {ha₂ : a₂.view.WordExact} {hb₂' : b₂.view.WordExact}

include hd in
/-- A reduce-scatter hop. -/
theorem wp_rs_hop
    {hsc : ((slotM s) : Memref sig (Dev.tc (⟨d, hd'⟩ : Dev nD) : Thread nD τ).2.kind .vmem S128x1024 .bf16).view.ref.isScScratch = false}
    {hsrc : (srcM : Memref sig .tc .vmem S128x1024 .bf16).view.WordExact} {hdst : (slotM s).view.WordExact}
    {hsem : DmaTarget.Typed .vmem (.dma (semOf cc0_scratch5 s)) (.remote (Dev.tc (⟨d, hd'⟩ : Dev nD) : Thread nD τ) (slotM s) (.dma (semOf cc0_scratch4 s)) hsc)}
    {Q : α → sProp 𝕄} {k : PUnit → Prog (TpuEff nD τ sig (Elt F) Λ₀ .tc) α} :
    rsAt m ρ K c s
      ⊢ iprop(((records m ρ K ∗ levAts L lv ∗ (accLoc c ↦{fullShare} accV m ρ c) ∗ St m ρ c (s.val + 1) ∗ sendPay m ρ c (rsHop s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc (⟨d, hd'⟩ : Dev nD) : Thread nD τ) (slotM s) (.dma (semOf cc0_scratch4 s)) hsc) (.dma (semOf cc0_scratch5 s)) hsrc hdst hsem) fun _ =>
                .op (.waitDma2 (semOf cc0_scratch4 s) a₁ b₁ ha₁ hb₁') fun _ => .op (.waitDma2 (semOf cc0_scratch5 s) a₂ b₂ ha₂ hb₂') k) Q) := by
  unfold rsAt
  iintro ⟨#HR, #Hlev, Ha, HSt, Hs⟩
  iintro Hk
  iapply (wp_hop_aside m ρ K c ⟨d, hd'⟩ (Fin.ext hd) (rsHop s) srcM (slotM s) (hopSrc_rs c s).symm (hopDst_rs c s).symm
    _ _ _ _ (sem_rs_send s) (sem_rs_recv s) (sem_rs_send s) (sem_rs_recv s) (credit_any _) (credit_any _)) $$ [HSt Hs]
  · isplitr; · iexact HR
    isplitr; · iexact Hlev
    isplitl [HSt] <;> iassumption
  iintro ⟨HSt, Hs⟩
  iapply Hk
  isplitr; · iexact HR
  isplitr; · iexact Hlev
  isplitl [Ha]; · iexact Ha
  isplitl [HSt] <;> iassumption

include hd in
/-- A reduce-scatter hop, then the next chunk into the send buffer. -/
theorem wp_rs (t : Fin 15) (hst : t.val = s.val + 1)
    (g : Vec F S128x1024 .f32 → Vec F S1x128x1024 .bf16 → Vec F S1x128x1024 .bf16)
    (hg : ∀ a X, g a X = shapeCast S1x128x1024 (combine (shapeCast S128x1024 X shapeCasts_S1x128x1024_S128x1024) a) shapeCasts_S128x1024_S1x128x1024)
    {hsc : ((slotM s) : Memref sig (Dev.tc (⟨d, hd'⟩ : Dev nD) : Thread nD τ).2.kind .vmem S128x1024 .bf16).view.ref.isScScratch = false}
    {hsrc : (srcM : Memref sig .tc .vmem S128x1024 .bf16).view.WordExact} {hdst : (slotM s).view.WordExact}
    {hsem : DmaTarget.Typed .vmem (.dma (semOf cc0_scratch5 s)) (.remote (Dev.tc (⟨d, hd'⟩ : Dev nD) : Thread nD τ) (slotM s) (.dma (semOf cc0_scratch4 s)) hsc)}
    {h₁ : (accM : Memref sig .tc .vmem S2048x1024 .f32).view.LoadsAt (accR c t).toLoadRect}
    {h₁' : (rsM : Memref sig .tc .vmem S15x128x1024 .bf16).view.LoadsAt (slotR s).toLoadRect}
    {h₂ : (sndM : Memref sig .tc .vmem S1x128x1024 .bf16).view.LoadsAt sndR.toLoadRect}
    {h₃ : ((sndM : Memref sig .tc .vmem S1x128x1024 .bf16).access sndR).Stores Finset.univ} {h₄ : (Finset.univ : Finset sndR.shape.Idx) = Finset.univ ∨ ∀ a, sndR.stride a = 1}
    {Q : α → sProp 𝕄} {k : PUnit → Prog (TpuEff nD τ sig (Elt F) Λ₀ .tc) α} :
    rsAt m ρ K c s
      ⊢ iprop((rsAt m ρ K c t
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc (⟨d, hd'⟩ : Dev nD) : Thread nD τ) (slotM s) (.dma (semOf cc0_scratch4 s)) hsc) (.dma (semOf cc0_scratch5 s)) hsrc hdst hsem) fun _ =>
                .op (.waitDma2 (semOf cc0_scratch4 s) a₁ b₁ ha₁ hb₁') fun _ => .op (.waitDma2 (semOf cc0_scratch5 s) a₂ b₂ ha₂ hb₂') fun _ =>
                .op (.load accM (accR c t).toLoadRect h₁) fun a => .op (.load rsM (slotR s).toLoadRect h₁') fun X => .op (.load sndM sndR.toLoadRect h₂) fun _ =>
                .op (.store sndM sndR (g a X) Finset.univ h₃ h₄) k) Q) := by
  iintro H
  iintro Hk
  iapply (wp_rs_hop m ρ K c s d hd) $$ H
  unfold rsAt
  iintro ⟨#HR, #Hlev, Ha, HSt, Hs⟩
  iapply (wp_fill m ρ c s t hst _ _ (off1_eq c t) _ _ rfl g hg) $$ [Ha HSt Hs]
  · isplitl [Ha]; · iexact Ha
    isplitl [HSt] <;> iassumption
  iintro ⟨Ha, HSt, Hs⟩
  iapply Hk
  isplitr; · iexact HR
  isplitr; · iexact Hlev
  isplitl [Ha]; · iexact Ha
  isplitl [HSt] <;> iassumption

include hd in
/-- The first all-gather hop, which sends the device's own finished chunk. -/
theorem wp_ag_first
    {hsc : ((agV c 0) : Memref sig (Dev.tc (⟨d, hd'⟩ : Dev nD) : Thread nD τ).2.kind .vmem S128x1024 .bf16).view.ref.isScScratch = false}
    {hsrc : (agV c 0).view.WordExact} {hdst : (agV c 0).view.WordExact}
    {hsem : DmaTarget.Typed .vmem (.dma (semOf cc0_scratch7 0)) (.remote (Dev.tc (⟨d, hd'⟩ : Dev nD) : Thread nD τ) (agV c 0) (.dma (semOf cc0_scratch6 0)) hsc)}
    {Q : α → sProp 𝕄} {k : PUnit → Prog (TpuEff nD τ sig (Elt F) Λ₀ .tc) α} :
    agAt m ρ K c 0
      ⊢ iprop((agAt m ρ K c 1
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agV c 0) (.remote (Dev.tc (⟨d, hd'⟩ : Dev nD) : Thread nD τ) (agV c 0) (.dma (semOf cc0_scratch6 0)) hsc) (.dma (semOf cc0_scratch7 0)) hsrc hdst hsem) fun _ =>
                .op (.waitDma2 (semOf cc0_scratch6 0) a₁ b₁ ha₁ hb₁') fun _ => .op (.waitDma2 (semOf cc0_scratch7 0) a₂ b₂ ha₂ hb₂') k) Q) := by
  unfold agAt
  iintro ⟨#HR, #Hlev, HSt, Hs⟩
  iintro Hk
  iapply (wp_hop_aside m ρ K c ⟨d, hd'⟩ (Fin.ext hd) (agHop 0) _ _ ((agV_eq c 0).trans (hopSrc_ag c 0).symm) ((agV_eq c 0).trans (hopDst_ag c 0).symm)
    _ _ _ _ (sem_ag_send 0) (sem_ag_recv 0) (sem_ag_send 0) (sem_ag_recv 0) (credit_any _) (credit_any _)) $$ [HSt Hs]
  · isplitr; · iexact HR
    isplitr; · iexact Hlev
    isplitl [HSt] <;> iassumption
  iintro ⟨HSt, Hs⟩
  iapply Hk
  isplitr; · iexact HR
  isplitr; · iexact Hlev
  isplitl [HSt] <;> iassumption

include hd in
/-- A later all-gather hop `t = s + 1`, which sends on what landed in the one before. -/
theorem wp_ag (t : Fin 15) (hst : t.val = s.val + 1) (i j : ℕ) (hi : t.val = i) (hj : i + 1 = j)
    {hsc : ((agV c t) : Memref sig (Dev.tc (⟨d, hd'⟩ : Dev nD) : Thread nD τ).2.kind .vmem S128x1024 .bf16).view.ref.isScScratch = false}
    {hsrc : (agV c t).view.WordExact} {hdst : (agV c t).view.WordExact}
    {hsem : DmaTarget.Typed .vmem (.dma (semOf cc0_scratch7 t)) (.remote (Dev.tc (⟨d, hd'⟩ : Dev nD) : Thread nD τ) (agV c t) (.dma (semOf cc0_scratch6 t)) hsc)}
    {Q : α → sProp 𝕄} {k : PUnit → Prog (TpuEff nD τ sig (Elt F) Λ₀ .tc) α} :
    agAt m ρ K c i
      ⊢ iprop((agAt m ρ K c j
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agV c t) (.remote (Dev.tc (⟨d, hd'⟩ : Dev nD) : Thread nD τ) (agV c t) (.dma (semOf cc0_scratch6 t)) hsc) (.dma (semOf cc0_scratch7 t)) hsrc hdst hsem) fun _ =>
                .op (.waitDma2 (semOf cc0_scratch6 t) a₁ b₁ ha₁ hb₁') fun _ => .op (.waitDma2 (semOf cc0_scratch7 t) a₂ b₂ ha₂ hb₂') k) Q) := by
  subst hj hi
  unfold agAt
  iintro ⟨#HR, #Hlev, HSt, Hs⟩
  iintro Hk
  iapply (wp_hop_on m ρ K c ⟨d, hd'⟩ (Fin.ext hd) (agHop s) (agHop t) (by show 15 + s.val < 15 + t.val; omega) (pass_on m ρ c s t hst)
    _ _ ((agV_eq c t).trans (hopSrc_ag c t).symm) ((agV_eq c t).trans (hopDst_ag c t).symm)
    _ _ _ _ (sem_ag_send t) (sem_ag_recv t) (sem_ag_send t) (sem_ag_recv t) (credit_any _) (credit_any _)) $$ [HSt]
  · isplitr; · iexact HR
    isplitr; · iexact Hlev
    iexact HSt
  iintro HSt
  iapply Hk
  isplitr; · iexact HR
  isplitr; · iexact Hlev
  isplitl [HSt]; · iexact HSt
  iexact Hs

end Hop

end Cert.RingIdeal

end
-- ==== Proof.Ideal.Body.lean ====
/-
# The kernel's body on one device

The body is run once, at a symbolic device, from what the launch gives it to what it leaves.
-/
module

public import proofs.«01_k».proof.Proof.Ideal.Steps
public import proofs.«01_k».proof.Proof.Gen.KernelIdeal.Points

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with and what it ends with -/

/-- The tokens and positions a device holds at the start, the credits apart. -/
def linear (c : Dev nD) : sProp 𝕄 :=
  iprop(atPos ER (barCell c) 0 ∅ 0 ∗ dutyTok ER (barCell (nxt c)) 0 false ∗ dutyTok ER (barCell (prv c)) 0 true ∗ bigSep Finset.univ fun h : Fin 30 => hold c h)
/-- The credits it is owed. -/
def owedTo (c : Dev nD) : sProp 𝕄 := iprop(cred (tallyAt (barCell c) () 2) ∗ bigSep Finset.univ fun h : Fin 30 => cred (tallyAt (recvCell c h) () N))
def start (c : Dev nD) : sProp 𝕄 := iprop((∃ K, records m ρ K ∗ linear c) ∗ owedTo c ∗ levAts L lv)
/-- Its four scratch buffers, whatever they hold. -/
def scratch (c : Dev nD) : sProp 𝕄 :=
  iprop((∃ f : Buf (Elt F) (accLoc c), (accLoc c ↦{fullShare} f)) ∗ (∃ f : Buf (Elt F) (rsLoc c), (rsLoc c ↦{fullShare} f))
    ∗ (∃ f : Buf (Elt F) (sndLoc c), (sndLoc c ↦{fullShare} f)) ∗ (∃ f : Buf (Elt F) (agLoc c), (agLoc c ↦{fullShare} f)))
def Φ₀ (c : Dev nD) : sProp 𝕄 := iprop(start m ρ c ∗ scratch c)
/-- After the point: the scratch buffers, and every counter at zero. -/
def Φ₁ (c : Dev nD) : sProp 𝕄 := iprop(scratch c ∗ semVal (barCell c) 0 ∗ bigSep Finset.univ fun h : Fin 30 => closed c h)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => rwStg m ρ c
    | ⟨2, _⟩ => idxStg m ρ c
    | ⟨3, _⟩ => wStg m ρ c
    | ⟨4, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The five windows' staging buffers before the body. -/
def stgsPre (c : Dev nD) : sProp 𝕄 :=
  iprop((∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- and after it. -/
def stgsPost (c : Dev nD) : sProp 𝕄 :=
  iprop(stg c cc0_stg0_0 (xStg m ρ c) ∗ stg c cc0_stg1_0 (rwStg m ρ c) ∗ stg c cc0_stg2_0 (idxStg m ρ c) ∗ stg c cc0_stg3_0 (wStg m ρ c)
    ∗ stg c cc0_stg4_0 (outAt m ρ))

def bodyPre (c : Dev nD) : sProp 𝕄 :=
  iprop((((∃ K, records m ρ K ∗ linear c) ∗ owedTo c ∗ levAts L lv) ∗ scratch c) ∗ (dats m ρ 0 c).owesAt () t0_0.castSucc ∗ stgsPre m ρ c)
def bodyPost (c : Dev nD) : sProp 𝕄 :=
  iprop(Φ₁ c ∗ (dats m ρ 0 c).owesAt () t0_0.succ ∗ stgsPost m ρ c)

/-! ## The reads of whole buffers -/

omit [FloatOps F] in
theorem x_read (f : (cc0_stg0_0 : Ref sig .tc).ty.Contents (Elt F)) :
    (xM : Memref sig .tc .vmem S2048x512 .bf16).view.readAt (Elt F) (Rect.unit (s := S2048x512) ![0, 0] S2048x512.size inb_S2048x512_S2048x512_0_0).toLoadRect f = f :=
  Memref.readAt_unit_zero (Elt F) cc0_stg0_0 zero2 _ f
omit [FloatOps F] in
theorem rw_read (f : (cc0_stg1_0 : Ref sig .tc).ty.Contents (Elt F)) :
    (rwM : Memref sig .tc .vmem S512x128 .bf16).view.readAt (Elt F) (Rect.unit (s := S512x128) ![0, 0] S512x128.size inb_S512x128_S512x128_0_0).toLoadRect f = f :=
  Memref.readAt_unit_zero (Elt F) cc0_stg1_0 zero2 _ f
omit [FloatOps F] in
theorem ag_read (f : (cc0_scratch3 : Ref sig .tc).ty.Contents (Elt F)) :
    (agM : Memref sig .tc .vmem S2048x1024 .bf16).view.readAt (Elt F) accWR.toLoadRect f = f :=
  Memref.readAt_unit_zero (Elt F) cc0_scratch3 zero2 _ f
omit [FloatOps F] in
theorem out_write (f w : (cc0_stg4_0 : Ref sig .tc).ty.Contents (Elt F)) :
    ((oM : Memref sig .tc .vmem S2048x1024 .f32).access accWR : View sig .tc _ _ _).write (Elt F) f w Finset.univ = w :=
  Memref.write_access_unit_zero_univ (Elt F) cc0_stg4_0 zero2 _ f w

/-! ## The body -/

set_option maxRecDepth 16384 in
set_option maxHeartbeats 8000000 in
/-- The body, one rule per step in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) rwM (Memref.isWhole_whole _) idxM (Memref.isWhole_whole _) wM (Memref.isWhole_whole _) oM (Memref.isWhole_whole _)
            accM (Memref.isWhole_whole _) rsM (Memref.isWhole_whole _) sndM (Memref.isWhole_whole _) agM (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel,
    semSignalWord, semWaitWord, Prog.lift, Prog.bind_op, Prog.bind_ret, Prog.pure_eq_ret, wp_deviceId]
  unfold bodyPre linear owedTo scratch stgsPre
  iintro ⟨⟨⟨⟨⟨%K, #HR, HatB, HtN, HtP, Hh⟩, ⟨HcB, Hc⟩, #Hlev⟩, ⟨%fa, Ha⟩, ⟨%fr, Hr⟩, ⟨%fs, Hs⟩, ⟨%fg, Hg⟩⟩,
    Ho, ⟨%d0, %g0, %hg0, Hx⟩, ⟨%d1, %g1, %hg1, Hrw⟩, ⟨%d2, %g2, %hg2, Hi⟩, ⟨%d3, %g3, %hg3, Hw⟩, ⟨%d4, %g4, %hg4, Hout⟩⟩, Hk⟩
  obtain rfl : g0 = xStg m ρ c := by rw [hg0]; unfold Dat.before; rw [if_pos (fetch0_0 t0_0)]; rfl
  obtain rfl : g1 = rwStg m ρ c := by rw [hg1]; unfold Dat.before; rw [if_pos (fetch0_1 t0_0)]; rfl
  obtain rfl : g2 = idxStg m ρ c := by rw [hg2]; unfold Dat.before; rw [if_pos (fetch0_2 t0_0)]; rfl
  obtain rfl : g3 = wStg m ρ c := by rw [hg3]; unfold Dat.before; rw [if_pos (fetch0_3 t0_0)]; rfl
  unfold Dat.owesAt Pipeline.owesWithin
  icases Ho with ⟨%W, %hW, HO⟩
  rw [show (dats m ρ 0 c).owed t0_0.castSucc = O₀ c from rfl]
  -- the barrier
  iapply (wp_barrier m ρ K c _ _ (Fin.ext (k0_dev1_eq c)) (Fin.ext (k0_dev2_eq c)) W fr fg) $$ [HatB HtN HtP Hh HcB Hc HO Hr Hg]
  · isplitr; · iexact HR
    isplitr; · iexact Hlev
    isplitl [HatB]; · iexact HatB
    isplitl [HtN]; · iexact HtN
    isplitl [HtP]; · iexact HtP
    isplitl [HcB]; · iexact HcB
    isplitl [Hh Hc]
    · unfold ticket
      iapply (Entails.of_eq (BI.bigSep_sep' Finset.univ (fun h : Fin 30 => hold c h) fun h => cred (tallyAt (recvCell c h) () N)).symm)
      isplitl [Hh] <;> iassumption
    isplitl [HO]; · iexact HO
    isplitl [Hr] <;> iassumption
  iintro ⟨HSt, Hown, HzB⟩
  -- the routing's inputs
  iapply (wp_load 𝒱₀ (c : Thread nD τ) none Set.univ (m := xM) (Finset.subset_univ _)) $$ Hx; iintro Hx
  rw [x_read]
  iapply (wp_load 𝒱₀ (c : Thread nD τ) none Set.univ (m := rwM) (Finset.subset_univ _)) $$ Hrw; iintro Hrw
  rw [rw_read]
  iapply (wp_load 𝒱₀ (c : Thread nD τ) none Set.univ (m := idxM) (Finset.subset_univ _)) $$ Hi; iintro Hi
  iapply (wp_load 𝒱₀ (c : Thread nD τ) none Set.univ (m := idxM) (Finset.subset_univ _)) $$ Hi; iintro Hi
  -- the eight experts
  iapply (wp_first m ρ c fa (accAt m ρ c 0) _ _ rfl _ rfl) $$ [Hw Ha]
  · isplitl [Hw] <;> iassumption
  iintro ⟨Hw, Ha⟩
  iapply (wp_expert m ρ c 0 1 rfl _ _ rfl _ (fun _ _ => rfl)) $$ [Hw Ha]
  · isplitl [Hw] <;> iassumption
  iintro ⟨Hw, Ha⟩
  iapply (wp_expert m ρ c 1 2 rfl _ _ rfl _ (fun _ _ => rfl)) $$ [Hw Ha]
  · isplitl [Hw] <;> iassumption
  iintro ⟨Hw, Ha⟩
  iapply (wp_expert m ρ c 2 3 rfl _ _ rfl _ (fun _ _ => rfl)) $$ [Hw Ha]
  · isplitl [Hw] <;> iassumption
  iintro ⟨Hw, Ha⟩
  iapply (wp_expert m ρ c 3 4 rfl _ _ rfl _ (fun _ _ => rfl)) $$ [Hw Ha]
  · isplitl [Hw] <;> iassumption
  iintro ⟨Hw, Ha⟩
  iapply (wp_expert m ρ c 4 5 rfl _ _ rfl _ (fun _ _ => rfl)) $$ [Hw Ha]
  · isplitl [Hw] <;> iassumption
  iintro ⟨Hw, Ha⟩
  iapply (wp_expert m ρ c 5 6 rfl _ _ rfl _ (fun _ _ => rfl)) $$ [Hw Ha]
  · isplitl [Hw] <;> iassumption
  iintro ⟨Hw, Ha⟩
  iapply (wp_expert m ρ c 6 7 rfl _ _ rfl _ (fun _ _ => rfl)) $$ [Hw Ha]
  · isplitl [Hw] <;> iassumption
  iintro ⟨Hw, Ha⟩
  ihave Ha := (Entails.of_eq (show (accLoc c ↦{fullShare} accAt m ρ c 7 : sProp 𝕄) = (accLoc c ↦{fullShare} accV m ρ c) from rfl)) $$ Ha
  -- the reduce-scatter
  iapply (wp_fill0 m ρ c fs _ _ (off1_eq c 0) _ (fun _ => rfl)) $$ [Ha Hs]
  · isplitl [Ha] <;> iassumption
  iintro ⟨Ha, Hs⟩
  ihave HS : rsAt m ρ K c 0 $$ [Ha HSt Hs]
  · unfold rsAt
    isplitr; · iexact HR
    isplitr; · iexact Hlev
    isplitl [Ha]; · iexact Ha
    isplitl [HSt]; · iexact HSt
    iexact Hs
  iapply (wp_rs m ρ K c 0 _ (k0_dev3_eq c) 1 rfl _ (fun _ _ => rfl)) $$ HS; iintro HS
  iapply (wp_rs m ρ K c 1 _ (k0_dev4_eq c) 2 rfl _ (fun _ _ => rfl)) $$ HS; iintro HS
  iapply (wp_rs m ρ K c 2 _ (k0_dev5_eq c) 3 rfl _ (fun _ _ => rfl)) $$ HS; iintro HS
  iapply (wp_rs m ρ K c 3 _ (k0_dev6_eq c) 4 rfl _ (fun _ _ => rfl)) $$ HS; iintro HS
  iapply (wp_rs m ρ K c 4 _ (k0_dev7_eq c) 5 rfl _ (fun _ _ => rfl)) $$ HS; iintro HS
  iapply (wp_rs m ρ K c 5 _ (k0_dev8_eq c) 6 rfl _ (fun _ _ => rfl)) $$ HS; iintro HS
  iapply (wp_rs m ρ K c 6 _ (k0_dev9_eq c) 7 rfl _ (fun _ _ => rfl)) $$ HS; iintro HS
  iapply (wp_rs m ρ K c 7 _ (k0_dev10_eq c) 8 rfl _ (fun _ _ => rfl)) $$ HS; iintro HS
  iapply (wp_rs m ρ K c 8 _ (k0_dev11_eq c) 9 rfl _ (fun _ _ => rfl)) $$ HS; iintro HS
  iapply (wp_rs m ρ K c 9 _ (k0_dev12_eq c) 10 rfl _ (fun _ _ => rfl)) $$ HS; iintro HS
  iapply (wp_rs m ρ K c 10 _ (k0_dev13_eq c) 11 rfl _ (fun _ _ => rfl)) $$ HS; iintro HS
  iapply (wp_rs m ρ K c 11 _ (k0_dev14_eq c) 12 rfl _ (fun _ _ => rfl)) $$ HS; iintro HS
  iapply (wp_rs m ρ K c 12 _ (k0_dev15_eq c) 13 rfl _ (fun _ _ => rfl)) $$ HS; iintro HS
  iapply (wp_rs m ρ K c 13 _ (k0_dev16_eq c) 14 rfl _ (fun _ _ => rfl)) $$ HS; iintro HS
  iapply (wp_rs_hop m ρ K c 14 _ (k0_dev17_eq c)) $$ HS; iintro ⟨-, -, Ha, HSt, Hs⟩
  iapply (wp_finish m ρ c _ _ (k0_off2_eq c) _ _ rfl _ (fun _ _ => rfl)) $$ [Ha HSt Hown]
  · isplitl [Ha]; · iexact Ha
    isplitl [HSt]; · iexact HSt
    iexact Hown
  iintro ⟨Ha, HSt, Hown⟩
  -- the all-gather
  ihave HS : agAt m ρ K c 0 $$ [HSt Hown]
  · unfold agAt
    isplitr; · iexact HR
    isplitr; · iexact Hlev
    isplitl [HSt]; · iexact HSt
    iexact Hown
  iapply (wp_ag_first m ρ K c _ (k0_dev18_eq c)) $$ HS; iintro HS
  iapply (wp_ag m ρ K c 0 _ (k0_dev19_eq c) 1 rfl 1 2 rfl rfl) $$ HS; iintro HS
  iapply (wp_ag m ρ K c 1 _ (k0_dev20_eq c) 2 rfl 2 3 rfl rfl) $$ HS; iintro HS
  iapply (wp_ag m ρ K c 2 _ (k0_dev21_eq c) 3 rfl 3 4 rfl rfl) $$ HS; iintro HS
  iapply (wp_ag m ρ K c 3 _ (k0_dev22_eq c) 4 rfl 4 5 rfl rfl) $$ HS; iintro HS
  iapply (wp_ag m ρ K c 4 _ (k0_dev23_eq c) 5 rfl 5 6 rfl rfl) $$ HS; iintro HS
  iapply (wp_ag m ρ K c 5 _ (k0_dev24_eq c) 6 rfl 6 7 rfl rfl) $$ HS; iintro HS
  iapply (wp_ag m ρ K c 6 _ (k0_dev25_eq c) 7 rfl 7 8 rfl rfl) $$ HS; iintro HS
  iapply (wp_ag m ρ K c 7 _ (k0_dev26_eq c) 8 rfl 8 9 rfl rfl) $$ HS; iintro HS
  iapply (wp_ag m ρ K c 8 _ (k0_dev27_eq c) 9 rfl 9 10 rfl rfl) $$ HS; iintro HS
  iapply (wp_ag m ρ K c 9 _ (k0_dev28_eq c) 10 rfl 10 11 rfl rfl) $$ HS; iintro HS
  iapply (wp_ag m ρ K c 10 _ (k0_dev29_eq c) 11 rfl 11 12 rfl rfl) $$ HS; iintro HS
  iapply (wp_ag m ρ K c 11 _ (k0_dev30_eq c) 12 rfl 12 13 rfl rfl) $$ HS; iintro HS
  iapply (wp_ag m ρ K c 12 _ (k0_dev31_eq c) 13 rfl 13 14 rfl rfl) $$ HS; iintro HS
  iapply (wp_ag m ρ K c 13 _ (k0_dev32_eq c) 14 rfl 14 15 rfl rfl) $$ HS; iintro HS
  unfold agAt
  icases HS with ⟨-, -, HSt, Hown⟩
  ihave HE := (St_end m ρ c) $$ [HSt Hown]
  · isplitl [HSt]; · iexact HSt
    iexact Hown
  icases HE with ⟨HO, Hz, Hr, Hg⟩
  ihave Hs := (send_back m ρ c 14) $$ Hs
  -- the result
  iapply (wp_load 𝒱₀ (c : Thread nD τ) none Set.univ (m := agM) (Finset.subset_univ _)) $$ Hg; iintro Hg
  rw [ag_read]
  iapply (wp_load 𝒱₀ (c : Thread nD τ) none Set.univ (m := oM) (Finset.subset_univ _)) $$ Hout; iintro Hout
  iapply (wp_store 𝒱₀ (c : Thread nD τ) none Set.univ (m := oM) (r := accWR) (Mk := Finset.univ) (Finset.subset_univ _)) $$ Hout; iintro Hout
  rw [out_write, wp_ret]; imodintro
  iapply Hk
  unfold bodyPost Φ₁ scratch stgsPost Dat.owesAt Pipeline.owesWithin
  rw [show (dats m ρ 0 c).owed t0_0.succ = 0 from rfl]
  isplitl [Ha Hr Hs Hg HzB Hz]
  · isplitl [Ha Hr Hs Hg]
    · isplitl [Ha]; · iexists _; iexact Ha
      isplitl [Hr]; · iexact Hr
      isplitl [Hs]; · iexact Hs
      iexists _; iexact Hg
    isplitl [HzB] <;> iassumption
  isplitl [HO]
  · unfold owesFrom
    icases HO with ⟨%W', HO⟩
    iexists W'
    isplitr; · ipureintro; exact fun _ _ => Or.inl trivial
    rw [owedFrom_end]; iexact HO
  isplitl [Hx]
  · iexists _; isplitr; · (ipureintro; rfl)
    iexact Hx
  isplitl [Hrw]
  · iexists _; isplitr; · (ipureintro; rfl)
    iexact Hrw
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 16384 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) rwM (Memref.isWhole_whole _) idxM (Memref.isWhole_whole _) wM (Memref.isWhole_whole _) oM (Memref.isWhole_whole _)
      accM (Memref.isWhole_whole _) rsM (Memref.isWhole_whole _) sndM (Memref.isWhole_whole _) agM (Memref.isWhole_whole _)
      cc0_scratch4 cc0_scratch5 cc0_scratch6 cc0_scratch7) (fun _ => bodyPost m ρ c)
  iintro H
  iapply (sound_body m ρ c fun _ => bodyPost m ρ c)
  isplitl [H]; · iexact H
  iintro H; iexact H

end Cert.RingIdeal

end
-- ==== Proof.Ideal.Launch.lean ====
/-
# The run

The sixteen bodies are launched together: the cells' records are made, each device is dealt its tokens, and the run of the
whole program is read at the end.
-/
module

public import proofs.«01_k».proof.Proof.Ideal.Body
public import Idealize.ShloMosaic.Lib.Pipeline.CollectiveSegs

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- A device's hops' own semaphores as the launch counts them. -/
theorem ownSemFacts : Pipeline.OwnSemFacts cfg0.spec osem := by decide

theorem share_eq (c : Dev nD) (w : Fin cfg0.W) : (dats m ρ 0 c).share w = fullShare := by unfold Dat.share; split <;> rfl

theorem osem_injective : Function.Injective osem := by
  rintro ⟨a, h⟩ ⟨a', h'⟩ e
  cases a <;> cases a' <;> simp only [osem, Bool.false_eq_true, if_true, if_false, SemLoc.dma.injEq] at e
  · rw [sendS_inj e]
  · exact absurd e (sendS_ne_recvS h h')
  · exact absurd e.symm (sendS_ne_recvS h' h)
  · rw [recvS_inj e]
theorem osem_ne_bar (k : Bool × Fin 30) : osem k ≠ .reg barS := by
  rcases k with ⟨_ | _, h⟩ <;> exact fun e => by cases e
theorem csem_injective : Function.Injective csem := by
  rintro (_ | k) (_ | k') e
  · rfl
  · exact absurd e.symm (osem_ne_bar k')
  · exact absurd e (osem_ne_bar k)
  · rw [osem_injective e]
theorem kcell_injective : Function.Injective kcell := by
  rintro ⟨c, k⟩ ⟨c', k'⟩ e
  have h1 : c = c' := congrArg (fun g : GSem nD τ sig => g.1.1) e
  have h2 : k = k' := csem_injective (congrArg Prod.snd e)
  rw [h1, h2]

def ringCells : Finset (GSem nD τ sig) := Finset.univ.map ⟨kcell, kcell_injective⟩

/-- The duties of a device's own cells: two at the barrier, one at each hop's semaphore. -/
abbrev dutyAt : Bool ⊕ (Bool × Fin 30) → Option (Bool × Fin 30) × Bool
  | .inl b => (none, b)
  | .inr k => (some k, false)
theorem dutyAt_injective : Function.Injective dutyAt := by
  rintro (b | k) (b' | k') e <;> simp_all [dutyAt]
abbrev tokOf (cj : Dev nD × (Bool ⊕ (Bool × Fin 30))) : GSem nD τ sig × ℕ × Bool := (kcell (cj.1, (dutyAt cj.2).1), 0, (dutyAt cj.2).2)
theorem tokOf_injective : Function.Injective tokOf := by
  rintro ⟨c, j⟩ ⟨c', j'⟩ e
  have h1 := kcell_injective (congrArg Prod.fst e)
  have h2 : (dutyAt j).2 = (dutyAt j').2 := congrArg (fun x : GSem nD τ sig × ℕ × Bool => x.2.2) e
  have h3 : (dutyAt j).1 = (dutyAt j').1 := congrArg Prod.snd h1
  have h4 : c = c' := congrArg Prod.fst h1
  rw [h4, dutyAt_injective (Prod.ext h3 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun h : Fin 30 => dutyTok ER (sendCell c h) 0 false) ∗ (bigSep Finset.univ fun h : Fin 30 => dutyTok ER (recvCell c h) 0 false))

/-- What the launch deals device `c`, -/
def G (c : Dev nD) : sProp 𝕄 :=
  iprop((bigSep Finset.univ fun k : Option (Bool × Fin 30) => roundState ER (ringRd m ρ) (kcell (c, k)) 0)
    ∗ (bigSep Finset.univ fun k : Option (Bool × Fin 30) => iprop(atPos ER (kcell (c, k)) 0 ∅ 0 ∗ reached ER (kcell (c, k)) 0)) ∗ toks c)
/-- and what the devices together make of it. -/
def G' (c : Dev nD) : sProp 𝕄 := iprop(∃ K, records m ρ K ∗ linear c)

/-! ## Splitting over the semaphores of a device -/

omit [FloatOps F] in
theorem sep_bool (Φ : Bool → sProp 𝕄) : bigSep Finset.univ Φ = iprop(Φ false ∗ Φ true) :=
  bigSep_univ_eq_bigSepL [false, true] (by decide) (by decide) Φ
omit [FloatOps F] in
theorem sep_pair (Φ : Bool × Fin 30 → sProp 𝕄) :
    bigSep Finset.univ Φ = iprop((bigSep Finset.univ fun h => Φ (false, h)) ∗ bigSep Finset.univ fun h => Φ (true, h)) := by
  rw [bigSep_univ_prod, sep_bool]
omit [FloatOps F] in
theorem sep_option (Φ : Option (Bool × Fin 30) → sProp 𝕄) :
    bigSep Finset.univ Φ = iprop(Φ none ∗ (bigSep Finset.univ fun h => Φ (some (false, h))) ∗ bigSep Finset.univ fun h => Φ (some (true, h))) := by
  rw [sep_take (Finset.mem_univ none) Φ,
    show (Finset.univ.erase none : Finset (Option (Bool × Fin 30))) = Finset.univ.map Function.Embedding.some from by
      ext k; cases k <;> simp, BI.bigSep_map, sep_pair]
  rfl
omit [FloatOps F] in
theorem sep_duty (Φ : Bool ⊕ (Bool × Fin 30) → sProp 𝕄) :
    bigSep Finset.univ Φ = iprop((Φ (.inl false) ∗ Φ (.inl true)) ∗ (bigSep Finset.univ fun h => Φ (.inr (false, h))) ∗ bigSep Finset.univ fun h => Φ (.inr (true, h))) := by
  rw [BI.bigSep_univ_sum, sep_bool, sep_pair]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option (Bool × Fin 30) => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => by unfold toks; rw [sep_duty]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat' Hr']
  · isplitl [Hat'] <;> iassumption
  iexact Htok'

/-! ## The counters -/

omit [FloatOps F] in
/-- The hops' counters of a device at zero; -/
theorem ownSems0_eq (c : Dev nD) : (Pipeline.ownSems0 (Ix := Unit) (Name := ℕ) (U := UU) (Lvl := ℕ) (Val := Elt F) (τ := τ) osem c : sProp 𝕄)
    = iprop((bigSep Finset.univ fun h : Fin 30 => semVal (sendCell c h) 0) ∗ bigSep Finset.univ fun h : Fin 30 => semVal (recvCell c h) 0) := by
  unfold Pipeline.ownSems0; rw [sep_pair]; rfl
omit [FloatOps F] in
/-- the barrier's counter is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 30) => semVal (kcell (c, k)) 0 : sProp 𝕄) := by
  rw [ownSems0_eq, unscopedSems0_eq, sep_option]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Bool × Fin 30) => semVal (kcell (c, k)) 0) ∗ bigSep Finset.univ fun k : Option (Bool × Fin 30) => roundState ER (ringRd m ρ) (kcell (c, k)) 0)
      ⊢ (|={Set.univ}=> bigSep Finset.univ fun k => iprop(∃ κ : ℕ, cellInv ER (ringRd m ρ) κ (kcell (c, k))) : sProp 𝕄) from by
        rw [← BI.bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around the ring -/

/-- A device's positions, one after another. -/
def places (c : Dev nD) : sProp 𝕄 := bigSep Finset.univ fun k : Option (Bool × Fin 30) => atPos ER (kcell (c, k)) 0 ∅ 0
/-- The tokens of the duties device `c` pays. -/
def payToks (c : Dev nD) : sProp 𝕄 :=
  iprop((dutyTok ER (barCell (nxt c)) 0 false ∗ dutyTok ER (barCell (prv c)) 0 true)
    ∗ (bigSep Finset.univ fun h : Fin 30 => dutyTok ER (sendCell c h) 0 false) ∗ (bigSep Finset.univ fun h : Fin 30 => dutyTok ER (recvCell (nxt c) h) 0 false))

omit [FloatOps F] in
theorem toks_around : (bigSep Finset.univ fun c : Dev nD => (toks c : sProp 𝕄)) ⊢ bigSep Finset.univ fun c : Dev nD => payToks c := by
  unfold toks payToks
  rw [BI.bigSep_sep', BI.bigSep_sep', BI.bigSep_sep', BI.bigSep_sep', BI.bigSep_sep', BI.bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => bigSep Finset.univ fun h : Fin 30 => (dutyTok ER (recvCell c h) 0 false : sProp 𝕄))]
  iintro H; iexact H

omit [FloatOps F] in
theorem linear_intro (c : Dev nD) : iprop(places c ∗ payToks c) ⊢ (linear c : sProp 𝕄) := by
  unfold places payToks linear hold
  rw [sep_option, BI.bigSep_sep', BI.bigSep_sep', BI.bigSep_sep']
  iintro ⟨⟨HB, HS, HV⟩, ⟨T1, T2⟩, T3, T4⟩
  isplitl [HB]; · iexact HB
  isplitl [T1]; · iexact T1
  isplitl [T2]; · iexact T2
  isplitl [T3 T4]
  · isplitl [T3]; · iexact T3
    iexact T4
  isplitl [HS]; · iexact HS
  iexact HV

theorem ghost_intro (K : Dev nD × Option (Bool × Fin 30) → ℕ) (c : Dev nD) : iprop(records m ρ K ∗ places c ∗ payToks c) ⊢ G' m ρ c := by
  unfold G'
  iintro ⟨#HR, H⟩
  iexists K
  isplitr; · iexact HR
  iapply (linear_intro (F := F) c); iexact H

omit [FloatOps F] in
theorem sep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [BI.bigSep_sep', BI.bigSep_sep', ← bigSep_univ_prod (fun ck : Dev nD × Option (Bool × Fin 30) => iprop(∃ κ : ℕ, cellInv ER (ringRd m ρ) κ (kcell ck))),
    bigSep_congr (s := Finset.univ) (fun (c : Dev nD) _ => BI.bigSep_sep' Finset.univ (fun k : Option (Bool × Fin 30) => (atPos ER (kcell (c, k)) 0 ∅ 0 : sProp 𝕄)) (fun k => reached ER (kcell (c, k)) 0)),
    BI.bigSep_sep', ← bigSep_univ_prod (fun ck : Dev nD × Option (Bool × Fin 30) => (reached ER (kcell ck) 0 : sProp 𝕄))]
  iintro ⟨HI, ⟨Hat, #HR⟩, Htok⟩
  ihave HK := (BI.bigSep_exists_pi Finset.univ (fun (ck : Dev nD × Option (Bool × Fin 30)) (κ : ℕ) => (cellInv ER (ringRd m ρ) κ (kcell ck) : sProp 𝕄))) $$ HI
  icases HK with ⟨%K, #HI⟩
  ihave Htk := (toks_around (F := F)) $$ Htok
  iapply (sep_each (R := records m ρ K) (Φ := fun c => iprop(places c ∗ payToks c)) fun c _ => ghost_intro m ρ K c)
  isplitr
  · unfold records; isplitl; · iexact HI
    iexact HR
  · iapply (Entails.of_eq (BI.bigSep_sep' Finset.univ (fun c : Dev nD => (places c : sProp 𝕄)) payToks).symm)
    isplitl [Hat]; · unfold places; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits owed at the start -/

theorem bar_eq_iff {a b : Dev nD} : Iff (barCell a = barCell b) (a = b) :=
  ⟨fun h => congrArg (fun g : GSem nD τ sig => g.1.1) h, fun h => h ▸ rfl⟩
theorem recv_eq_iff {a b : Dev nD} {h h' : Fin 30} : Iff (recvCell a h = recvCell b h') (a = b ∧ h = h') :=
  ⟨fun e => ⟨congrArg (fun g : GSem nD τ sig => g.1.1) e, recvS_inj (SemLoc.dma.inj (congrArg Prod.snd e))⟩, fun e => by rw [e.1, e.2]⟩
theorem recv_ne_bar {a b : Dev nD} {h : Fin 30} : recvCell a h ≠ barCell b := fun e => by have := congrArg Prod.snd e; cases this

theorem owedFrom_bar (d c : Dev nD) : owedFrom d 0 (barCell c) () = 0 := by
  rw [owedFrom_apply]
  exact Finset.sum_eq_zero fun h _ => by rw [tallyAt_ne_cell recv_ne_bar.symm]; rfl
theorem owedFrom_recv (d c : Dev nD) (h : Fin 30) : owedFrom d 0 (recvCell c h) () = if d = prv c then N else 0 := by
  rw [owedFrom_apply, Finset.sum_eq_single h (fun h' _ hn => by
      rw [tallyAt_ne_cell (fun e => hn (recv_eq_iff.mp e).2.symm)]; rfl)
    (fun hn => absurd (Finset.mem_filter.mpr ⟨Finset.mem_univ h, Nat.zero_le _⟩) hn), tallyAt_apply]
  by_cases e : d = prv c
  · subst e; rw [nxt_prv, if_pos ⟨rfl, rfl⟩, if_pos rfl]
  · rw [if_neg (fun ⟨h1, _⟩ => e (by rw [← prv_nxt d]; exact congrArg prv (recv_eq_iff.mp h1).1.symm)), if_neg e]

/-- Device `d` owes the barrier cell of `c` one unit for each side it stands on. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedFrom_bar, tallyAt_apply, tallyAt_apply, Nat.zero_add]
  congr 1
  · by_cases e : d = prv c
    · subst e; rw [nxt_prv, if_pos ⟨rfl, rfl⟩, if_pos rfl]
    · rw [if_neg (fun ⟨h1, _⟩ => e (by rw [← prv_nxt d]; exact congrArg prv (bar_eq_iff.mp h1).symm)), if_neg e]
  · by_cases e : d = nxt c
    · subst e; rw [prv_nxt, if_pos ⟨rfl, rfl⟩, if_pos rfl]
    · rw [if_neg (fun ⟨h1, _⟩ => e (by rw [← nxt_prv d]; exact congrArg nxt (bar_eq_iff.mp h1).symm)), if_neg e]
theorem owed_recv (d c : Dev nD) (h : Fin 30) : O₀ d (recvCell c h) () = if d = prv c then N else 0 := by
  unfold O₀ O₁
  rw [Pi.add_apply, Finsupp.add_apply, Pi.add_apply, Finsupp.add_apply, owedFrom_recv,
    tallyAt_ne_cell recv_ne_bar, tallyAt_ne_cell recv_ne_bar, Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_recv (c : Dev nD) (h : Fin 30) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => owed_recv d c h, Finset.sum_ite_eq' Finset.univ (prv c) fun _ => N,
    if_pos (Finset.mem_univ _)]

theorem recvLoc_injective : Function.Injective (fun h : Fin 30 => (SemLoc.dma (recvS h) : SemLoc sig)) := fun a b e =>
  recvS_inj (SemLoc.dma.inj e)

omit [FloatOps F] in
theorem sep_subset {I : Type} [DecidableEq I] {s t : Finset I} (h : s ⊆ t) (Φ : I → sProp 𝕄) : bigSep t Φ ⊢ bigSep s Φ := by
  rw [show bigSep t Φ = iprop(bigSep s Φ ∗ bigSep (t \ s) Φ) from by
    conv_lhs => rw [← Finset.union_sdiff_of_subset h]
    exact BI.bigSep_union Finset.disjoint_sdiff]
  iintro ⟨H, -⟩; iexact H

omit [FloatOps F] in
theorem creds (c : Dev nD) : (Pipeline.launchCred O₀ c : sProp 𝕄) ⊢ owedTo c := by
  unfold Pipeline.launchCred owedTo
  rw [bigSep_univ_at _ (SemLoc.reg barS), launch_bar]
  refine sep_mono_right ?_
  rw [show (bigSep Finset.univ fun h : Fin 30 => (cred (tallyAt (recvCell c h) () N) : sProp 𝕄))
      = bigSep (Finset.univ.map ⟨_, recvLoc_injective⟩) fun sm : SemLoc sig => cred (tallyOn ((c : Thread nD τ), sm) (launchCredit (Pipeline.owing O₀) 0 ((c : Thread nD τ), sm))) from by
    rw [BI.bigSep_map]; exact bigSep_congr fun h _ => by rw [← launch_recv]; rfl]
  exact sep_subset (fun sm hm => by
    obtain ⟨h, _, rfl⟩ := Finset.mem_map.mp hm
    exact Finset.mem_erase.mpr ⟨(fun e => by cases e), Finset.mem_univ _⟩) _

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  rw [BI.bigSep_sep']
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

/-- What each window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32768 in
/-- From any memory with zero counters and for any float values, every weakly fair execution of the program on the sixteen
    devices ends, with every array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The four argument arrays hold what they held; -/
theorem final_arg (c : Dev nD) (w : Fin 5) (hw : (cfg0.win w).isOut = false) : finalA m ρ c w = (s₀ m ρ).mem ((cfg0.win w).arr.view.loc (c : Thread nD τ)) :=
  (dats (F := F) m ρ 0 c).arrAt_in w hw _

/-- and the result array holds the gathered chunks, widened. -/
theorem final_out (c : Dev nD) : finalA m ρ c (4 : Fin 5) = outAt m ρ := by
  refine (dats (F := F) m ρ 0 c).arrAt_eq_of_cover (4 : Fin 5) (outAt m ρ) (fun t _ => ?_) fun i => ⟨t0_0, flush0_4 _, ?_⟩
  · obtain rfl := fin_N0 t
    have ha : (dats (F := F) m ρ 0 c).after 4 t0_0 = outAt m ρ := rfl
    unfold Dat.flushed
    rw [ha]
    exact (Memref.readAt_unit_zero (Elt F) main_v1 (off := fun a => win0_4.kind.off (win0_4.index t0_0 a) (win0_4.size a)) (funext fun a => by revert a; decide +kernel) (fun a => by revert a; decide +kernel) (outAt m ρ)).symm
  · show i ∈ ((View.whole main_v1).slice (win0_4.rect t0_0)).set
    rw [View.set_slice_whole]
    exact Rect.mem_set_unit.mpr fun a => ⟨by rw [show win0_4.kind.off (win0_4.index t0_0 a) (win0_4.size a) = 0 from by revert a; decide +kernel]; exact Nat.zero_le _,
      by rw [show win0_4.kind.off (win0_4.index t0_0 a) (win0_4.size a) = 0 from by revert a; decide +kernel, Nat.zero_add]; exact (i a).isLt⟩

/-- The run with its contents: on every device the result array ends at `outAt` and the arguments are as they were, and every
    counter is at zero. -/
theorem run_all : θ_run defs (onTc (τ := τ) (main (F := F))) ⟨m, fun _ => 0, ρ⟩ (fun r => (∀ c : Dev nD,
    r.2.mem ((c.tc : Thread nD τ).loc main_v1) = outAt m ρ
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun r h => ⟨fun c => ⟨(h.1 c 4).trans (final_out m ρ c), (h.1 c 0).trans (final_arg m ρ c 0 rfl),
    (h.1 c 1).trans (final_arg m ρ c 1 rfl), (h.1 c 2).trans (final_arg m ρ c 2 rfl), (h.1 c 3).trans (final_arg m ρ c 3 rfl)⟩, h.2⟩) (run_main m ρ)

end Cert.RingIdeal

end
-- ==== Proof.Value.Arith.lean ====
/-
# The arithmetic of the two weights and of the sum over the experts

A token's two chosen experts are weighed by `share a b = eᵃ / (eᵃ + eᵇ)` of their scores. The kernel computes it from the
exponentials with the row's greatest score taken off, the reference from the probabilities: in both the common factor drops
out. Scores are real numbers here; the experts' matrices are any extended reals, since a weight is a real number that is
not negative and multiplication by it distributes over any sum.
-/
module

public import Idealize.ShloMosaic.PureOps.Ideal.Laws
public import Idealize.ShloMosaic.Lib.ValueIdx
public import Idealize.ShloMosaic.Lib.Affine

@[expose] public section

noncomputable section

namespace Cert.RingValue

open Idealize.ShloMosaic
open scoped BigOperators

/-- The weight of the expert whose score is `a`, beside one whose score is `b`. -/
def share (a b : ℝ) : ℝ := Real.exp a / (Real.exp a + Real.exp b)

theorem share_nonneg (a b : ℝ) : 0 ≤ share a b := by unfold share; positivity

/-- An extended real that is no infinity. -/
def Finite (a : EReal) : Prop := a ≠ ⊤ ∧ a ≠ ⊥

theorem Finite.coe {a : EReal} (h : Finite a) : ((a.toReal : ℝ) : EReal) = a := EReal.coe_toReal h.1 h.2
theorem finite_coe (a : ℝ) : Finite (a : EReal) := ⟨EReal.coe_ne_top a, EReal.coe_ne_bot a⟩
theorem Finite.mul {a b : EReal} (ha : Finite a) (hb : Finite b) : Finite (a * b) := by
  rw [← ha.coe, ← hb.coe, ← EReal.coe_mul]; exact finite_coe _
theorem Finite.add {a b : EReal} (ha : Finite a) (hb : Finite b) : Finite (a + b) := by
  rw [← ha.coe, ← hb.coe, ← EReal.coe_add]; exact finite_coe _
theorem finite_sum {ι : Type} (s : Finset ι) (f : ι → EReal) (h : ∀ i ∈ s, Finite (f i)) : Finite (∑ i ∈ s, f i) := by
  classical
  induction s using Finset.induction_on with
  | empty => rw [Finset.sum_empty]; exact finite_coe 0
  | insert a s ha ih =>
    rw [Finset.sum_insert ha]
    exact (h a (Finset.mem_insert_self a s)).add (ih fun i hi => h i (Finset.mem_insert_of_mem hi))

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- The greatest of finitely many real numbers, one of which there is, is real. -/
theorem finite_max {n : ℕ} (i : Fin n) (f : Fin n → EReal) (h : ∀ i, Finite (f i)) :
    Finite ((Finset.univ : Finset (Fin n)).fold max ⊥ f) := by
  constructor
  · refine ne_of_lt ((Finset.fold_max_lt ⊤).mpr ⟨bot_lt_top, fun i _ => lt_of_le_of_ne le_top (h i).1⟩)
  · exact ne_of_gt (lt_of_lt_of_le (lt_of_le_of_ne bot_le (h i).2.symm) ((Finset.le_fold_max (f i)).mpr (Or.inr ⟨i, Finset.mem_univ i, le_rfl⟩)))

theorem exp_sub_coe (a b : ℝ) : Ideal.exp ((a : EReal) - (b : EReal)) = ((Real.exp (a - b) : ℝ) : EReal) := by
  rw [← EReal.coe_sub]; rfl

theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

theorem share_shift (a b m : ℝ) : Real.exp (a - m) / (Real.exp (a - m) + Real.exp (b - m)) = share a b := by
  unfold share
  rw [Real.exp_sub, Real.exp_sub, ← add_div, div_div_div_cancel_right₀ (Real.exp_pos m).ne']

/-- The weight the kernel gives an expert that may be a token's first choice, its second, both or neither. -/
theorem kernel_weight (a b m : ℝ) (p q : Prop) [Decidable p] [Decidable q] :
    Ideal.div ((if p then Ideal.exp ((a : EReal) - m) else 0) + (if q then Ideal.exp ((b : EReal) - m) else 0))
        (Ideal.exp ((a : EReal) - m) + Ideal.exp ((b : EReal) - m))
      = (((if p then share a b else 0) + (if q then share b a else 0) : ℝ) : EReal) := by
  have h0 : (if p then Ideal.exp ((a : EReal) - m) else 0) = ((if p then Real.exp (a - m) else 0 : ℝ) : EReal) := by
    split
    · exact exp_sub_coe a m
    · rfl
  have h1 : (if q then Ideal.exp ((b : EReal) - m) else 0) = ((if q then Real.exp (b - m) else 0 : ℝ) : EReal) := by
    split
    · exact exp_sub_coe b m
    · rfl
  rw [h0, h1, exp_sub_coe, exp_sub_coe, ← EReal.coe_add, ← EReal.coe_add, div_coe _ _ (by positivity), add_div]
  congr 2
  · split
    · exact share_shift a b m
    · exact zero_div _
  · split
    · rw [add_comm (Real.exp (a - m))]; exact share_shift b a m
    · exact zero_div _

/-- The weight the reference gives a choice: its probability over the two choices' probabilities. -/
theorem reference_weight (a b m s : ℝ) (hs : 0 < s) :
    Ideal.div (Ideal.div (Ideal.exp ((a : EReal) - m)) s)
        (Ideal.div (Ideal.exp ((a : EReal) - m)) s + Ideal.div (Ideal.exp ((b : EReal) - m)) s) = ((share a b : ℝ) : EReal) := by
  rw [exp_sub_coe, exp_sub_coe, div_coe _ _ hs, div_coe _ _ hs, ← EReal.coe_add, div_coe _ _ (by positivity), ← add_div,
    div_div_div_cancel_right₀ hs.ne', share_shift]

/-- A select on two words' equality. -/
theorem select_cmpi_eq {α : Type} {w : ℕ} (a b : BitVec w) (u v : α) : Scalar.select (IntOp.cmpi .eq a b) u v = if a = b then u else v := by
  unfold Scalar.select
  by_cases h : a = b
  · rw [if_pos h]; exact if_pos (IntOp.cmpi_eq.mpr h)
  · rw [if_neg h]; exact if_neg fun hc => h (IntOp.cmpi_eq.mp hc)

/-- A choice's number, an expert's. -/
def ixOf (b : BitVec 32) (h : b.toNat < 128) : Fin 128 := ⟨b.toNat, h⟩

theorem ofNat_eq_iff (e : Fin 128) (b : BitVec 32) (h : b.toNat < 128) : BitVec.ofNat 32 e.val = b ↔ e = ixOf b h := by
  have he : (BitVec.ofNat 32 e.val).toNat = e.val := by rw [BitVec.toNat_ofNat]; exact Nat.mod_eq_of_lt (by omega)
  constructor
  · intro q; refine Fin.ext ?_; show e.val = b.toNat; rw [← q, he]
  · intro q; refine BitVec.eq_of_toNat_eq ?_; rw [he, q]; rfl

/-- The sum over the experts of the one that is chosen is its value. -/
theorem sum_pick (b : BitVec 32) (h : b.toNat < 128) (s : Fin 128 → EReal) :
    ∑ e : Fin 128, Scalar.select (IntOp.cmpi .eq (BitVec.ofNat 32 e.val) b) (s e) 0 = s (ixOf b h) := by
  rw [Finset.sum_congr rfl fun e _ => show _ = if e = ixOf b h then s e else 0 by
    rw [select_cmpi_eq]; exact if_congr (ofNat_eq_iff e b h) rfl rfl, Finset.sum_ite_eq', if_pos (Finset.mem_univ _)]

/-- A real number that is not negative distributes over any sum of extended reals. -/
theorem coe_mul_sum {ι : Type} (s : Finset ι) (w : ℝ) (hw : 0 ≤ w) (f : ι → EReal) : (w : EReal) * ∑ i ∈ s, f i = ∑ i ∈ s, (w : EReal) * f i := by
  classical
  induction s using Finset.induction_on with
  | empty => rw [Finset.sum_empty, Finset.sum_empty, mul_zero]
  | insert a s ha ih => rw [Finset.sum_insert ha, Finset.sum_insert ha, EReal.left_distrib_of_nonneg_of_ne_top (by exact_mod_cast hw) (EReal.coe_ne_top w), ih]

/-- THE SUM OVER THE EXPERTS. With weight `α` on expert `e₀` and `β` on `e₁` (their sum if the two are one), the sum of all experts'
    weighted products is the two chosen ones' weighted products. -/
theorem sum_experts (n k : ℕ) (x : Fin k → EReal) (W : Fin n → Fin k → EReal) (e₀ e₁ : Fin n) (α β : ℝ) (hα : 0 ≤ α) (hβ : 0 ≤ β) :
    ∑ e : Fin n, ∑ d : Fin k, (x d * (((if e₀ = e then α else 0) + (if e₁ = e then β else 0) : ℝ) : EReal)) * W e d
      = (α : EReal) * ∑ d : Fin k, x d * W e₀ d + (β : EReal) * ∑ d : Fin k, x d * W e₁ d := by
  have key : ∀ e : Fin n, ∑ d : Fin k, (x d * (((if e₀ = e then α else 0) + (if e₁ = e then β else 0) : ℝ) : EReal)) * W e d
      = (if e₀ = e then (α : EReal) * ∑ d : Fin k, x d * W e d else 0) + (if e₁ = e then (β : EReal) * ∑ d : Fin k, x d * W e d else 0) := by
    intro e
    have h0 : (0 : ℝ) ≤ if e₀ = e then α else 0 := by split <;> [exact hα; exact le_rfl]
    have h1 : (0 : ℝ) ≤ if e₁ = e then β else 0 := by split <;> [exact hβ; exact le_rfl]
    rw [Finset.sum_congr rfl fun d _ => show (x d * (((if e₀ = e then α else 0) + (if e₁ = e then β else 0) : ℝ) : EReal)) * W e d
      = (((if e₀ = e then α else 0) + (if e₁ = e then β else 0) : ℝ) : EReal) * (x d * W e d) by rw [mul_comm (x d), mul_assoc],
      ← coe_mul_sum _ _ (add_nonneg h0 h1), EReal.coe_add,
      EReal.right_distrib_of_nonneg (by exact_mod_cast h0) (by exact_mod_cast h1)]
    congr 1
    · split
      · rfl
      · rw [EReal.coe_zero, zero_mul]
    · split
      · rfl
      · rw [EReal.coe_zero, zero_mul]
  rw [Finset.sum_congr rfl fun e _ => key e, Finset.sum_add_distrib, Finset.sum_ite_eq, Finset.sum_ite_eq,
    if_pos (Finset.mem_univ _), if_pos (Finset.mem_univ _)]

/-- Eight experts on each of sixteen devices are the 128 experts. -/
theorem sum_devices (g : Fin 128 → EReal) :
    ∑ c : Fin 16, ∑ l : Fin 8, g ⟨8 * c.val + l.val, by omega⟩ = ∑ e : Fin 128, g e := by
  rw [← Fintype.sum_prod_type']
  refine Fintype.sum_equiv (finProdFinEquiv (m := 16) (n := 8)) _ _ fun p => congrArg g (Fin.ext ?_)
  show 8 * p.1.val + p.2.val = p.2.val + 8 * p.1.val
  omega

end Cert.RingValue

end
-- ==== Proof.Value.Kernel.lean ====
/-
# The kernel's arithmetic, read at an index

The values the kernel computes on a device, each read at an index: the scores, a row's greatest score, the weight of one of
the device's eight experts for a token, the partial sum of the eight experts' products, and the chunk that the ring sums
over all sixteen devices.
-/
module

public import proofs.«01_k».proof.Proof.Ideal.Launch
public import proofs.«01_k».proof.Proof.Value.Arith
public import Idealize.ShloMosaic.Lib.Pointwise
public import Idealize.ShloMosaic.Lib.WordCmp

@[expose] public section

set_option maxRecDepth 16384

noncomputable section

namespace Cert.RingValue

open Cert.KernelIdeal Cert.KernelIdeal.Gen
open Idealize.ShloMosaic

open Cert.RingIdeal

theorem negInf : Ideal.ofBits FTy.f32 4286578688#32 = ⊥ := by simp [Ideal.ofBits, Ideal.ieee]

/-- The router's scores. -/
theorem score_apply (x : FVec Ideal S2048x512 .bf16) (r : FVec Ideal S512x128 .bf16) (t : Fin 2048) (e : Fin 128) :
    k0_pay2 (F := Ideal) x r (ix2 t e) = ∑ d : Fin 512, x (ix2 t d) * r (ix2 d e) := by
  pointwise [k0_pay2, k0_pay1]

/-- A row's greatest. -/
theorem max_apply (x : FVec Ideal S2048x512 .bf16) (r : FVec Ideal S512x128 .bf16) (t : Fin 2048) :
    k0_pay3 (F := Ideal) x r (ix2 t 0) = (Finset.univ : Finset (Fin 128)).fold max ⊥ fun e => k0_pay2 (F := Ideal) x r (ix2 t e) := by
  pointwise [k0_pay3]
  rw [negInf]

/-- The scores with all but the first choice's zeroed. -/
theorem pick_apply (x : FVec Ideal S2048x512 .bf16) (r : FVec Ideal S512x128 .bf16) (i0 : Vec Ideal S2048x1 .i32) (t : Fin 2048) (e : Fin 128) :
    k0_pay6 (F := Ideal) x r i0 (ix2 t e) = Scalar.select (IntOp.cmpi .eq (BitVec.ofNat 32 e.val) (i0 (ix2 t 0))) (k0_pay2 (F := Ideal) x r (ix2 t e)) 0 := by
  pointwise [k0_pay6, k0_pay4]

theorem pay4_eq (i : Vec Ideal S2048x1 .i32) : k0_pay4 (F := Ideal) i = i := by
  funext j; unfold k0_pay4; exact congrFun (shapeCast_self _ _) j
theorem pay5_eq (i : Vec Ideal S2048x1 .i32) : k0_pay5 (F := Ideal) i = i := by
  funext j; unfold k0_pay5; exact congrFun (shapeCast_self _ _) j
theorem pay1_eq (x : Vec Ideal S2048x512 .bf16) : k0_pay1 (F := Ideal) x = x := by
  funext j; unfold k0_pay1; exact congrFun (shapeCast_self _ _) j

/-- The weights, over the scores. -/
theorem pay7_apply (v2 : BitVec 32) (s : FVec Ideal S2048x128 .f32) (mx : FVec Ideal S2048x1 .f32) (i0 i1 : IVec S2048x1 32)
    (p : FVec Ideal S2048x128 .f32) (t : Fin 2048) (l : Fin 8) :
    k0_pay7 (F := Ideal) v2 s mx i0 i1 (iota .tc S2048x128 32 [1] iota_S2048x128_d1_w32) p (ix2 t l)
      = Ideal.div (Scalar.select (IntOp.cmpi .eq (i0 (ix2 t 0)) (IntOp.addi (Scalar.muli v2 8#32) (BitVec.ofNat 32 l.val)))
            (Ideal.exp ((∑ e : Fin 128, p (ix2 t e)) - mx (ix2 t 0))) 0
          + Scalar.select (IntOp.cmpi .eq (i1 (ix2 t 0)) (IntOp.addi (Scalar.muli v2 8#32) (BitVec.ofNat 32 l.val)))
            (Ideal.exp ((∑ e : Fin 128, Scalar.select (IntOp.cmpi .eq (BitVec.ofNat 32 e.val) (i1 (ix2 t 0))) (s (ix2 t e)) 0) - mx (ix2 t 0))) 0)
        (Ideal.exp ((∑ e : Fin 128, p (ix2 t e)) - mx (ix2 t 0))
          + Ideal.exp ((∑ e : Fin 128, Scalar.select (IntOp.cmpi .eq (BitVec.ofNat 32 e.val) (i1 (ix2 t 0))) (s (ix2 t e)) 0) - mx (ix2 t 0))) := by
  pointwise [k0_pay7]

theorem addExpert_apply (e : Fin 8) (x : FVec Ideal S2048x512 .bf16) (w : FVec Ideal S2048x8 .f32) (b : Vec Ideal S1x512x1024 .bf16) (a : Vec Ideal S2048x1024 .f32) (t : Fin 2048) (f : Fin 1024) :
    addExpert (F := Ideal) e x w b a (ix2 t f) = a (ix2 t f) + ∑ d : Fin 512, (x (ix2 t d) * w (ix2 t e)) * b (ix3 0 d f) := by
  pointwise [addExpert]

variable (m : (ℓ : Loc nD τ sig) → Buf (Elt Ideal) ℓ) (ρ : Dev nD → PrngReg) (c : Dev nD)

/-! ## What is staged -/

/-- The staged arguments, the partial sums and the result, as arrays of extended reals. -/
abbrev xV : FVec Ideal S2048x512 .bf16 := xStg m ρ c
abbrev rV : FVec Ideal S512x128 .bf16 := rwStg m ρ c
abbrev iV : IVec S2048x2 32 := idxStg m ρ c
abbrev eV : FVec Ideal S8x512x1024 .bf16 := wStg m ρ c
abbrev sV : FVec Ideal S2048x1024 .f32 := accV m ρ c
abbrev oV : FVec Ideal S2048x1024 .f32 := outAt m ρ

theorem xStg_eq : xStg m ρ c = m ((c.tc : Thread nD τ).loc main_arg0) :=
  Memref.readAt_unit_zero (Elt Ideal) main_arg0 (off := fun a => win0_0.kind.off (win0_0.index t0_0 a) (win0_0.size a))
    (funext fun a => by revert a; decide +kernel) (fun a => by revert a; decide +kernel) _
theorem rwStg_eq : rwStg m ρ c = m ((c.tc : Thread nD τ).loc main_arg1) :=
  Memref.readAt_unit_zero (Elt Ideal) main_arg1 (off := fun a => win0_1.kind.off (win0_1.index t0_0 a) (win0_1.size a))
    (funext fun a => by revert a; decide +kernel) (fun a => by revert a; decide +kernel) _
theorem idxStg_eq : idxStg m ρ c = m ((c.tc : Thread nD τ).loc main_arg2) :=
  Memref.readAt_unit_zero (Elt Ideal) main_arg2 (off := fun a => win0_2.kind.off (win0_2.index t0_0 a) (win0_2.size a))
    (funext fun a => by revert a; decide +kernel) (fun a => by revert a; decide +kernel) _
theorem wStg_eq : wStg m ρ c = m ((c.tc : Thread nD τ).loc main_arg3) :=
  Memref.readAt_unit_zero (Elt Ideal) main_arg3 (off := fun a => win0_3.kind.off (win0_3.index t0_0 a) (win0_3.size a))
    (funext fun a => by revert a; decide +kernel) (fun a => by revert a; decide +kernel) _

theorem slab_apply (l : Fin 8) (d : Fin 512) (f : Fin 1024) : slab m ρ c l (ix3 0 d f) = wStg m ρ c (ix3 l d f) := by
  show wStg m ρ c ((expertR l).emb (ix3 0 d f)) = _
  congr 1
  funext a
  refine Fin.ext ?_
  rw [Rect.emb_apply]
  match a with
  | ⟨0, _⟩ => simp [Rect.unit]
  | ⟨1, _⟩ => simp [Rect.unit]
  | ⟨2, _⟩ => simp [Rect.unit]
theorem idx0_apply (t : Fin 2048) : idx0 m ρ c (ix2 t 0) = iV m ρ c (ix2 t 0) := by
  show idxStg m ρ c (idxR0.emb (ix2 t 0)) = _
  congr 1
  funext a
  refine Fin.ext ?_
  rw [Rect.emb_apply]
  match a with
  | ⟨0, _⟩ => simp [Rect.unit]
  | ⟨1, _⟩ => simp [Rect.unit]
theorem idx1_apply (t : Fin 2048) : idx1 m ρ c (ix2 t 0) = iV m ρ c (ix2 t 1) := by
  show idxStg m ρ c (idxR1.emb (ix2 t 0)) = _
  congr 1
  funext a
  refine Fin.ext ?_
  rw [Rect.emb_apply]
  match a with
  | ⟨0, _⟩ => simp [Rect.unit]
  | ⟨1, _⟩ => simp [Rect.unit]

/-! ## The weights -/

/-- A score as a real number. -/
def scoreR (x : FVec Ideal S2048x512 .bf16) (r : FVec Ideal S512x128 .bf16) (t : Fin 2048) (e : Fin 128) : ℝ := (∑ d : Fin 512, x (ix2 t d) * r (ix2 d e)).toReal

/-- The number of device `c`'s expert `l`, as the kernel computes it. -/
theorem expert_word (l : Fin 8) : IntOp.addi (Scalar.muli (devWord c) 8#32) (BitVec.ofNat 32 l.val) = BitVec.ofNat 32 (8 * c.val + l.val) := by
  revert c l; decide +kernel

theorem word_eq_iff (b : BitVec 32) (h : b.toNat < 128) (e : Fin 128) : b = BitVec.ofNat 32 e.val ↔ ixOf b h = e :=
  eq_comm.trans ((ofNat_eq_iff e b h).trans eq_comm)

/-- THE WEIGHT of device `c`'s expert `l` for token `t`: the first choice's share if it is that choice, plus the second's if it is
    that one. -/
theorem wts_apply (t : Fin 2048) (l : Fin 8)
    (hx : ∀ d : Fin 512, Finite (xV m ρ c (ix2 t d))) (hr : ∀ (d : Fin 512) (e : Fin 128), Finite (rV m ρ c (ix2 d e)))
    (h0 : (iV m ρ c (ix2 t 0) : BitVec 32).toNat < 128) (h1 : (iV m ρ c (ix2 t 1) : BitVec 32).toNat < 128) :
    wts m ρ c (ix2 t l)
      = (((if ixOf (iV m ρ c (ix2 t 0)) h0 = ⟨8 * c.val + l.val, by have : c.val < 16 := c.isLt; omega⟩ then
            share (scoreR (xV m ρ c) (rV m ρ c) t (ixOf _ h0)) (scoreR (xV m ρ c) (rV m ρ c) t (ixOf _ h1)) else 0)
          + (if ixOf (iV m ρ c (ix2 t 1)) h1 = ⟨8 * c.val + l.val, by have : c.val < 16 := c.isLt; omega⟩ then
            share (scoreR (xV m ρ c) (rV m ρ c) t (ixOf _ h1)) (scoreR (xV m ρ c) (rV m ρ c) t (ixOf _ h0)) else 0) : ℝ) : EReal) := by
  have hc : c.val < 16 := c.isLt
  have hs : ∀ e, Finite (∑ d : Fin 512, xV m ρ c (ix2 t d) * rV m ρ c (ix2 d e)) :=
    fun e => finite_sum _ _ fun d _ => (hx d).mul (hr d e)
  have hse : ∀ e, k0_pay2 (F := Ideal) (xV m ρ c) (rV m ρ c) (ix2 t e) = ((scoreR (xV m ρ c) (rV m ρ c) t e : ℝ) : EReal) :=
    fun e => (score_apply _ _ t e).trans (hs e).coe.symm
  have hm : Finite ((Finset.univ : Finset (Fin 128)).fold max ⊥ fun e => k0_pay2 (F := Ideal) (xV m ρ c) (rV m ρ c) (ix2 t e)) :=
    finite_max (0 : Fin 128) _ fun e => by rw [hse]; exact finite_coe _
  show k0_pay7 (F := Ideal) (devWord c) (k0_pay2 (xV m ρ c) (rV m ρ c)) (k0_pay3 (xV m ρ c) (rV m ρ c)) (k0_pay4 (F := Ideal) (idx0 m ρ c)) (k0_pay5 (F := Ideal) (idx1 m ρ c))
    (iota .tc S2048x128 32 [1] iota_S2048x128_d1_w32) (k0_pay6 (xV m ρ c) (rV m ρ c) (idx0 m ρ c)) (ix2 t l) = _
  rw [pay4_eq, pay5_eq, pay7_apply, max_apply, Finset.sum_congr rfl fun e _ => pick_apply _ _ _ t e, idx0_apply, idx1_apply,
    sum_pick _ h0, sum_pick _ h1, hse, hse, expert_word, ← hm.coe, select_cmpi_eq, select_cmpi_eq]
  rw [← kernel_weight _ _ _ (ixOf (iV m ρ c (ix2 t 0)) h0 = ⟨8 * c.val + l.val, by omega⟩) (ixOf (iV m ρ c (ix2 t 1)) h1 = ⟨8 * c.val + l.val, by omega⟩)]
  congr 1
  congr 1
  · exact if_congr (word_eq_iff _ h0 ⟨8 * c.val + l.val, by omega⟩) rfl rfl
  · exact if_congr (word_eq_iff _ h1 ⟨8 * c.val + l.val, by omega⟩) rfl rfl

/-! ## The partial sums -/

/-- The first expert's product is added to zero. -/
theorem first_apply (t : Fin 2048) (f : Fin 1024) :
    firstExpert m ρ c (ix2 t f) = ∑ d : Fin 512, (xV m ρ c (ix2 t d) * wts m ρ c (ix2 t 0)) * slab m ρ c 0 (ix3 0 d f) := by
  unfold firstExpert wts
  pointwise [k0_pay8, k0_pay1]

/-- Device `c`'s partial sums. -/
theorem acc_apply (t : Fin 2048) (f : Fin 1024) :
    sV m ρ c (ix2 t f) = ∑ l : Fin 8, ∑ d : Fin 512, (xV m ρ c (ix2 t d) * wts m ρ c (ix2 t l)) * eV m ρ c (ix3 l d f) := by
  have step : ∀ (n : ℕ) (h : n + 1 < 8), accAt m ρ c (n + 1) (ix2 t f)
      = accAt m ρ c n (ix2 t f) + ∑ d : Fin 512, (xV m ρ c (ix2 t d) * wts m ρ c (ix2 t ⟨n + 1, h⟩)) * eV m ρ c (ix3 ⟨n + 1, h⟩ d f) := by
    intro n h
    show (if h : n + 1 < 8 then addExpert ⟨n + 1, h⟩ (k0_pay1 (xV m ρ c)) (wts m ρ c) (slab m ρ c ⟨n + 1, h⟩) (accAt m ρ c n) else accAt m ρ c n) (ix2 t f) = _
    rw [dif_pos h, addExpert_apply, pay1_eq]
    exact congrArg _ (Finset.sum_congr rfl fun d _ => congrArg _ (slab_apply m ρ c _ d f))
  have zero : accAt m ρ c 0 (ix2 t f) = ∑ d : Fin 512, (xV m ρ c (ix2 t d) * wts m ρ c (ix2 t 0)) * eV m ρ c (ix3 0 d f) :=
    (first_apply m ρ c t f).trans (Finset.sum_congr rfl fun d _ => congrArg _ (slab_apply m ρ c _ d f))
  rw [Fin.sum_univ_eight, ← zero]
  show accAt m ρ c 7 (ix2 t f) = _
  rw [step 6 (by omega), step 5 (by omega), step 4 (by omega), step 3 (by omega), step 2 (by omega), step 1 (by omega), step 0 (by omega)]
  rfl

/-! ## The ring's sum -/

theorem chunk_apply (k : Dev nD) (i : Fin 128) (f : Fin 1024) (t : Fin 2048) (ht : t.val = 128 * k.val + i.val) :
    accChunk m ρ c k (ix2 i f) = sV m ρ c (ix2 t f) := by
  show sV m ρ c ((chunkR k).emb (ix2 i f)) = _
  congr 1
  funext a
  refine Fin.ext ?_
  rw [Rect.emb_apply]
  match a with
  | ⟨0, _⟩ => simp [Rect.unit, ht]
  | ⟨1, _⟩ => simp [Rect.unit]

/-- The device `n` places after `k` on the ring. -/
def after (k : Dev nD) (n : ℕ) : Dev nD := (⟨(k.val + n) % 16, Nat.mod_lt _ (by decide)⟩ : Fin 16)

/-- What the device `s` places after `k` sends is the sum of chunk `k` over the devices from `k` to it. -/
theorem sent_apply (k : Dev nD) (i : Fin 128) (f : Fin 1024) : ∀ s : ℕ, s < 16 →
    rsSent m ρ s (after k s) (ix2 i f) = ∑ n ∈ Finset.range (s + 1), accChunk m ρ (after k n) k (ix2 i f)
  | 0, _ => by
    have hk : k.val < 16 := k.isLt
    have hb : back 0 (after k 0) = k := Fin.ext (by show ((k.val + 0) % 16 + 16 - 0) % 16 = k.val; omega)
    rw [Finset.sum_range_one]
    show truncf .bf16 (accChunk m ρ (after k 0) (back 0 (after k 0))) bitsLt_bf16_f32 (ix2 i f) = _
    rw [hb]; rfl
  | s + 1, h => by
    have hk : k.val < 16 := k.isLt
    have hb : back (s + 1) (after k (s + 1)) = k := Fin.ext (by show ((k.val + (s + 1)) % 16 + 16 - (s + 1)) % 16 = k.val; omega)
    have hp : prv (after k (s + 1)) = after k s := Fin.ext (by show ((k.val + (s + 1)) % 16 + 15) % 16 = (k.val + s) % 16; omega)
    rw [Finset.sum_range_succ, ← sent_apply k i f s (by omega)]
    show combine (rsSent m ρ s (prv (after k (s + 1)))) (accChunk m ρ (after k (s + 1)) (back (s + 1) (after k (s + 1)))) (ix2 i f) = _
    rw [hb, hp]; rfl

/-- Going once round the ring meets every device. -/
theorem sum_ring (k : Dev nD) (g : Dev nD → EReal) : ∑ n ∈ Finset.range 16, g (after k n) = ∑ c : Fin 16, g c := by
  rw [← Fin.sum_univ_eq_sum_range (fun n => g (after k n)) 16]
  refine Fintype.sum_equiv (Equiv.addLeft (show Fin 16 from k)) _ _ fun n => congrArg g (Fin.ext ?_)
  show (k.val + n.val) % 16 = _
  exact (Fin.val_add (show Fin 16 from k) n).symm

/-- THE FINISHED CHUNK is the sum over all devices. -/
theorem fin_apply (k : Dev nD) (i : Fin 128) (f : Fin 1024) :
    finChunk m ρ k (ix2 i f) = ∑ c : Fin 16, accChunk m ρ c k (ix2 i f) := by
  have hk : k.val < 16 := k.isLt
  have h1 : prv (prv k) = after k 14 := Fin.ext (by show ((k.val + 15) % 16 + 15) % 16 = (k.val + 14) % 16; omega)
  have h2 : prv k = after k 15 := rfl
  rw [← sum_ring k (fun c => accChunk m ρ c k (ix2 i f)), Finset.sum_range_succ, ← sent_apply m ρ k i f 14 (by omega)]
  show combine (rsSent m ρ 14 (prv (prv k))) (accChunk m ρ (prv k) k) (ix2 i f) = _
  rw [h1, h2]; rfl

/-- THE RESULT at token `t`: the sum over the devices of their partial sums. -/
theorem out_apply (t : Fin 2048) (f : Fin 1024) : oV m ρ (ix2 t f) = ∑ c : Fin 16, sV m ρ c (ix2 t f) := by
  have h := fin_apply m ρ (⟨t.val / 128, by omega⟩ : Fin 16) (⟨t.val % 128, by omega⟩ : Fin 128) f
  refine Eq.trans ?_ (h.trans (Finset.sum_congr rfl fun c _ => chunk_apply m ρ c _ _ f t ?_))
  · show gathered m ρ (ix2 t f) = _
    unfold gathered
    congr 1
    funext a
    match a with
    | ⟨0, _⟩ => rfl
    | ⟨1, _⟩ => rfl
  · show t.val = 128 * (t.val / 128) + t.val % 128; omega

end Cert.RingValue

end
-- ==== Proof.Value.Reference.lean ====
/-
# The reference's result, read at an index

The reference's operations gathered under names, and each read at an index: the scores, the probabilities, the chosen
experts' probabilities and products.
-/
module

public import proofs.«01_k».proof.Proof.Gen.ReferenceIdeal.Run
public import proofs.«01_k».proof.Proof.Value.Arith
public import Idealize.ShloMosaic.Lib.Pointwise
public import Idealize.ShloMosaic.Lib.WordCmp

@[expose] public section

set_option maxRecDepth 16384

noncomputable section

namespace Cert.RingValue.Ref

open Cert.ReferenceIdeal Cert.ReferenceIdeal.Gen
open Idealize.ShloMosaic

variable (x : FVec Ideal S2048x512 .bf16) (r : FVec Ideal S512x128 .bf16) (i : IVec S2048x2 32) (w : FVec Ideal S128x512x1024 .bf16)

/-- The router's scores. -/
def score : FVec Ideal S2048x128 .f32 :=
  Host.dotGeneral dot_S2048x512_S512x128_S2048x128_1_0_0_1_n_n none (extf .f32 x bitsLt_bf16_f32) (extf .f32 r bitsLt_bf16_f32)
/-- Their exponentials, the row's greatest score taken off. -/
def expo : FVec Ideal S2048x128 .f32 :=
  Host.exp (subf (score x r) (broadcastInDim S2048x128 ![0, 1] bcast_S2048x1_S2048x128_0_1 (broadcastInDim S2048x1 ![0] bcast_S2048_S2048x1_0
    (Host.reduce FloatOps.maximumf (score x r) (constant S_ .f32 0xFF800000#32) reducesTo_S2048x128_S2048_d1 h_S_))))
/-- The probabilities. -/
def prob : FVec Ideal S2048x128 .f32 :=
  Host.divf (expo x r) (broadcastInDim S2048x128 ![0, 1] bcast_S2048x1_S2048x128_0_1 (broadcastInDim S2048x1 ![0] bcast_S2048_S2048x1_0
    (Host.reduceAdd (expo x r) (constant S_ .f32 0x00000000#32) reducesTo_S2048x128_S2048_d1 h_S_)))
/-- The two columns of choices. -/
def col0 : IVec S2048 32 := shapeCast _ (extractStridedSlice S2048x1 ![0, 0] i slices_S2048x2_S2048x1_0_0) shapeCasts_S2048x1_S2048
def col1 : IVec S2048 32 := shapeCast _ (extractStridedSlice S2048x1 ![0, 1] i slices_S2048x2_S2048x1_0_1) shapeCasts_S2048x1_S2048
/-- A column with its negative entries moved up by `k`. -/
def wrap (k : BitVec 32) (j : IVec S2048 32) : IVec S2048x1 32 :=
  broadcastInDim S2048x1 ![0] bcast_S2048_S2048x1_0 (select (cmpi .slt j (broadcastInDim S2048 ![] bcast_S_S2048 (constantI S_ 32 0#32)))
    (addi j (broadcastInDim S2048 ![] bcast_S_S2048 (constantI S_ 32 k))) j)
/-- The probability of a column's choice. -/
def gate (j : IVec S2048 32) : FVec Ideal S2048x1 .f32 :=
  broadcastInDim S2048x1 ![0] bcast_S2048_S2048x1_0 (Host.gather gather_S2048x128_S2048x2_S2048_n_01_n_n_01_1_11 (prob x r)
    (concatenate S2048x2 1 [⟨S2048x1, wrap 2048#32 (iotaInDim S2048 32 0)⟩, ⟨S2048x1, wrap 128#32 j⟩] concatenates_S2048x1_S2048x1_S2048x2_d1))
/-- The product with a column's chosen matrices. -/
def prod (j : IVec S2048 32) : FVec Ideal S2048x1024 .f32 :=
  Host.dotGeneral dot_S2048x512_S2048x512x1024_S2048x1024_1_1_n_2_0_0 none (extf .f32 x bitsLt_bf16_f32)
    (Host.gather gather_S128x512x1024_S2048x1_S2048x512x1024_12_0_n_n_0_1_15121024 (extf .f32 w bitsLt_bf16_f32) (wrap 128#32 j))
/-- One of the two summands. -/
def term (j : IVec S2048 32) : FVec Ideal S2048x1024 .f32 :=
  mulf (broadcastInDim S2048x1024 ![0, 1] bcast_S2048x1_S2048x1024_0_1 (Host.divf (gate x r j) (addf (gate x r (col0 i)) (gate x r (col1 i))))) (prod x w j)
/-- The result. -/
def out : FVec Ideal S2048x1024 .f32 := addf (term x r i w (col0 i)) (term x r i w (col1 i))

set_option maxHeartbeats 4000000 in
/-- The run's result is `out` of the arguments. -/
theorem res_eq (m : (ℓ : Loc nD τ sig) → Buf (Elt Ideal) ℓ) (c : Dev nD) :
    Cert.ReferenceIdeal.Value.res_main_v71 m c
      = out (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v71 out term prod gate wrap col0 col1 prob expo score
  rfl

/-! ## Each of them at an index -/

theorem negInf : Ideal.ofBits FTy.f32 4286578688#32 = ⊥ := by simp [Ideal.ofBits, Ideal.ieee]

theorem score_apply (t : Fin 2048) (e : Fin 128) : score x r (ix2 t e) = ∑ d : Fin 512, x (ix2 t d) * r (ix2 d e) := by
  pointwise [score]

theorem expo_apply (t : Fin 2048) (e : Fin 128) : expo x r (ix2 t e)
    = Ideal.exp (score x r (ix2 t e) - (Finset.univ : Finset (Fin 128)).fold max ⊥ fun e => score x r (ix2 t e)) := by
  pointwise [expo]
  rw [negInf]

theorem prob_apply (t : Fin 2048) (e : Fin 128) : prob x r (ix2 t e)
    = Ideal.div (expo x r (ix2 t e)) (∑ e : Fin 128, expo x r (ix2 t e)) := by
  pointwise [prob]

theorem col0_apply (t : Fin 2048) : col0 i (ix1 t) = i (ix2 t 0) := by
  pointwise [col0]
theorem col1_apply (t : Fin 2048) : col1 i (ix1 t) = i (ix2 t 1) := by
  pointwise [col1]

theorem wrap_apply (k : BitVec 32) (j : IVec S2048 32) (t : Fin 2048) (z : Fin 1) (h : (j (ix1 t)).toNat < 2 ^ 31) : wrap k j (ix2 t z) = j (ix1 t) := by
  pointwise [wrap]
  unfold Scalar.select
  refine if_neg fun hc => ?_
  have := IntOp.cmpi_slt.mp hc
  rw [BitVec.toInt_eq_toNat_of_lt (by omega)] at this
  simp at this
  omega

theorem clamp (b : BitVec 32) (n : ℕ) (hn : n < 2 ^ 31) (h : b.toNat < n + 1) : min b.toInt.toNat n = b.toNat := by
  rw [BitVec.toInt_eq_toNat_of_lt (by omega), Int.toNat_natCast]
  omega

/-- The matrices gathered: a token's are its choice's. -/
theorem gatherW_apply {α : Type} (y : S128x512x1024.Idx → α) (q : IVec S2048x1 32) (t : Fin 2048) (d : Fin 512) (f : Fin 1024)
    (h : (q (ix2 t 0)).toNat < 128) :
    Host.gather gather_S128x512x1024_S2048x1_S2048x512x1024_12_0_n_n_0_1_15121024 y q (ix3 t d f) = y (ix3 ⟨(q (ix2 t 0)).toNat, h⟩ d f) := by
  unfold Host.gather
  congr 1
  funext a
  refine Fin.ext ?_
  show GatherDims.start _ _ q a + GatherDims.batchCoord _ _ a + GatherDims.offCoord _ _ a = _
  rw [GatherDims.batchCoord_eq_zero _ _ _ List.not_mem_nil]
  have hm : (0 : Fin 3) ∈ gather_S128x512x1024_S2048x1_S2048x512x1024_12_0_n_n_0_1_15121024.startIndexMap := List.mem_singleton.mpr rfl
  have hsi : ∀ c, GatherDims.siIdx gather_S128x512x1024_S2048x1_S2048x512x1024_12_0_n_n_0_1_15121024 (ix3 t d f) c = ix2 t 0 := by
    intro c
    funext b; refine Fin.ext ?_
    match b with
    | ⟨0, _⟩ => rfl
    | ⟨1, _⟩ => have hc := c.isLt; show c.val = 0; exact Nat.lt_one_iff.mp hc
  have h01 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    unfold GatherDims.start
    rw [dif_pos hm, hsi]
    exact clamp _ 127 (by omega) h
  · unfold GatherDims.start
    rw [dif_neg (by decide)]
    show 0 + 0 + d.val = d.val
    omega
  · unfold GatherDims.start
    rw [dif_neg (by decide)]
    show 0 + 0 + f.val = f.val
    omega

/-- The probabilities gathered. -/
theorem gatherP_apply {α : Type} (y : S2048x128.Idx → α) (q : IVec S2048x2 32) (t : Fin 2048)
    (h0 : (q (ix2 t 0)).toNat < 2048) (h : (q (ix2 t 1)).toNat < 128) :
    Host.gather gather_S2048x128_S2048x2_S2048_n_01_n_n_01_1_11 y q (ix1 t) = y (ix2 ⟨(q (ix2 t 0)).toNat, h0⟩ ⟨(q (ix2 t 1)).toNat, h⟩) := by
  unfold Host.gather
  congr 1
  funext a
  refine Fin.ext ?_
  show GatherDims.start _ _ q a + GatherDims.batchCoord _ _ a + GatherDims.offCoord _ _ a = _
  rw [GatherDims.batchCoord_eq_zero _ _ _ List.not_mem_nil]
  have hm0 : (0 : Fin 2) ∈ gather_S2048x128_S2048x2_S2048_n_01_n_n_01_1_11.startIndexMap := by decide
  have hm1 : (1 : Fin 2) ∈ gather_S2048x128_S2048x2_S2048_n_01_n_n_01_1_11.startIndexMap := by decide
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 hm0)]
    unfold GatherDims.start
    rw [dif_pos hm0]
    have hsi : GatherDims.siIdx gather_S2048x128_S2048x2_S2048_n_01_n_n_01_1_11 (ix1 t)
        ⟨List.idxOf (0 : Fin 2) gather_S2048x128_S2048x2_S2048_n_01_n_n_01_1_11.startIndexMap, List.idxOf_lt_length_iff.2 hm0⟩ = ix2 t 0 := by
      funext b; refine Fin.ext ?_
      match b with
      | ⟨0, _⟩ => rfl
      | ⟨1, _⟩ => rfl
    rw [hsi]
    exact clamp _ 2047 (by omega) h0
  · rw [GatherDims.offCoord_eq_zero _ _ _ (fun h => ((GatherDims.mem_sKept _ _).mp h).1 hm1)]
    unfold GatherDims.start
    rw [dif_pos hm1]
    have hsi : GatherDims.siIdx gather_S2048x128_S2048x2_S2048_n_01_n_n_01_1_11 (ix1 t)
        ⟨List.idxOf (1 : Fin 2) gather_S2048x128_S2048x2_S2048_n_01_n_n_01_1_11.startIndexMap, List.idxOf_lt_length_iff.2 hm1⟩ = ix2 t 1 := by
      funext b; refine Fin.ext ?_
      match b with
      | ⟨0, _⟩ => rfl
      | ⟨1, _⟩ => rfl
    rw [hsi]
    exact clamp _ 127 (by omega) h

theorem term_apply (j : IVec S2048 32) (t : Fin 2048) (f : Fin 1024) : term x r i w j (ix2 t f)
    = Ideal.div (gate x r j (ix2 t 0)) (gate x r (col0 i) (ix2 t 0) + gate x r (col1 i) (ix2 t 0)) * prod x w j (ix2 t f) := by
  pointwise [term]

theorem prod_apply (j : IVec S2048 32) (t : Fin 2048) (f : Fin 1024) (h : (j (ix1 t)).toNat < 128) :
    prod x w j (ix2 t f) = ∑ d : Fin 512, x (ix2 t d) * w (ix3 (ixOf _ h) d f) := by
  have hw : wrap 128#32 j (ix2 t 0) = j (ix1 t) := wrap_apply 128#32 j t 0 (by omega)
  pointwise [prod]
  refine Finset.sum_congr rfl fun d _ => ?_
  rw [gatherW_apply _ _ t d f (by rw [hw]; exact h)]
  pointwise []
  simp only [hw]
  rfl

theorem gate_apply (j : IVec S2048 32) (t : Fin 2048) (h : (j (ix1 t)).toNat < 128) : gate x r j (ix2 t 0) = prob x r (ix2 t (ixOf _ h)) := by
  have hw : wrap 128#32 j (ix2 t 0) = j (ix1 t) := wrap_apply 128#32 j t 0 (by omega)
  have ht : (BitVec.ofNat 32 t.val).toNat = t.val := by rw [BitVec.toNat_ofNat]; exact Nat.mod_eq_of_lt (by omega)
  have hi : iotaInDim S2048 32 0 (ix1 t) = BitVec.ofNat 32 t.val := rfl
  have hr : wrap 2048#32 (iotaInDim S2048 32 0) (ix2 t 0) = BitVec.ofNat 32 t.val :=
    (wrap_apply 2048#32 _ t 0 (by rw [hi, ht]; omega)).trans hi
  have c0 : concatenate S2048x2 1 [⟨S2048x1, wrap 2048#32 (iotaInDim S2048 32 0)⟩, ⟨S2048x1, wrap 128#32 j⟩]
        concatenates_S2048x1_S2048x1_S2048x2_d1 (ix2 t 0) = BitVec.ofNat 32 t.val := by
    pointwise []
    exact hr
  have c1 : concatenate S2048x2 1 [⟨S2048x1, wrap 2048#32 (iotaInDim S2048 32 0)⟩, ⟨S2048x1, wrap 128#32 j⟩]
        concatenates_S2048x1_S2048x1_S2048x2_d1 (ix2 t 1) = j (ix1 t) := by
    pointwise []
    exact hw
  pointwise [gate]
  rw [gatherP_apply _ _ t (by rw [c0, ht]; exact t.isLt) (by rw [c1]; exact h)]
  simp only [c0, c1, ht]
  rfl

end Cert.RingValue.Ref

end
-- ==== Proof.Value.Equal.lean ====
/-
# The kernel's result is the reference's

Where the activations and the router's matrix are real numbers and every choice is an expert's number, the sum over the
devices of the kernel's partial sums is the reference's sum of two products.
-/
module

public import proofs.«01_k».proof.Defs
public import proofs.«01_k».proof.Proof.Value.Kernel
public import proofs.«01_k».proof.Proof.Value.Reference

@[expose] public section

set_option maxRecDepth 16384

noncomputable section

namespace Cert.RingValue

open Idealize.ShloMosaic
open scoped BigOperators

/-! ## The reference -/

section
variable (x : FVec Ideal Cert.ReferenceIdeal.S2048x512 .bf16) (r : FVec Ideal Cert.ReferenceIdeal.S512x128 .bf16)
  (i : IVec Cert.ReferenceIdeal.S2048x2 32) (w : FVec Ideal Cert.ReferenceIdeal.S128x512x1024 .bf16)

/-- THE REFERENCE'S RESULT at token `t`: each choice's product times its share. -/
theorem reference_apply (t : Fin 2048) (f : Fin 1024)
    (hx : ∀ d : Fin 512, Finite (x (ix2 t d))) (hr : ∀ (d : Fin 512) (e : Fin 128), Finite (r (ix2 d e)))
    (h0 : (i (ix2 t 0)).toNat < 128) (h1 : (i (ix2 t 1)).toNat < 128) :
    Ref.out x r i w (ix2 t f)
      = ((share (scoreR x r t (ixOf _ h0)) (scoreR x r t (ixOf _ h1)) : ℝ) : EReal) * (∑ d : Fin 512, x (ix2 t d) * w (ix3 (ixOf _ h0) d f))
        + ((share (scoreR x r t (ixOf _ h1)) (scoreR x r t (ixOf _ h0)) : ℝ) : EReal) * (∑ d : Fin 512, x (ix2 t d) * w (ix3 (ixOf _ h1) d f)) := by
  have hs : ∀ e, Finite (∑ d : Fin 512, x (ix2 t d) * r (ix2 d e)) := fun e => finite_sum _ _ fun d _ => (hx d).mul (hr d e)
  have hse : ∀ e, Ref.score x r (ix2 t e) = ((scoreR x r t e : ℝ) : EReal) := fun e => (Ref.score_apply x r t e).trans (hs e).coe.symm
  have hm : Finite ((Finset.univ : Finset (Fin 128)).fold max ⊥ fun e => Ref.score x r (ix2 t e)) :=
    finite_max (0 : Fin 128) _ fun e => by rw [hse]; exact finite_coe _
  obtain ⟨M, hM⟩ : ∃ M : ℝ, ((Finset.univ : Finset (Fin 128)).fold max ⊥ fun e => Ref.score x r (ix2 t e)) = (M : EReal) := ⟨_, hm.coe.symm⟩
  have he : ∀ e, Ref.expo x r (ix2 t e) = ((Real.exp (scoreR x r t e - M) : ℝ) : EReal) := fun e => by
    rw [Ref.expo_apply, hM, hse, exp_sub_coe]
  have hS : (∑ e : Fin 128, Ref.expo x r (ix2 t e)) = ((∑ e : Fin 128, Real.exp (scoreR x r t e - M) : ℝ) : EReal) := by
    rw [Finset.sum_congr rfl fun e _ => he e]
    exact (coe_sum _ _).symm
  have hpos : 0 < ∑ e : Fin 128, Real.exp (scoreR x r t e - M) := Finset.sum_pos (fun e _ => Real.exp_pos _) ⟨0, Finset.mem_univ _⟩
  have hp : ∀ e, Ref.prob x r (ix2 t e)
      = Ideal.div (Ideal.exp ((scoreR x r t e : EReal) - (M : EReal))) ((∑ e : Fin 128, Real.exp (scoreR x r t e - M) : ℝ) : EReal) := fun e => by
    rw [Ref.prob_apply, hS, he, exp_sub_coe]
  have c0 := Ref.col0_apply i t
  have c1 := Ref.col1_apply i t
  have h0' : (Ref.col0 i (ix1 t)).toNat < 128 := by rw [c0]; exact h0
  have h1' : (Ref.col1 i (ix1 t)).toNat < 128 := by rw [c1]; exact h1
  have e0 : ixOf _ h0' = ixOf _ h0 := Fin.ext (by show (Ref.col0 i (ix1 t)).toNat = (i (ix2 t 0)).toNat; rw [c0])
  have e1 : ixOf _ h1' = ixOf _ h1 := Fin.ext (by show (Ref.col1 i (ix1 t)).toNat = (i (ix2 t 1)).toNat; rw [c1])
  show Ref.term x r i w (Ref.col0 i) (ix2 t f) + Ref.term x r i w (Ref.col1 i) (ix2 t f) = _
  rw [Ref.term_apply, Ref.term_apply, Ref.prod_apply x w _ t f h0', Ref.prod_apply x w _ t f h1', Ref.gate_apply x r _ t h0', Ref.gate_apply x r _ t h1',
    e0, e1, hp, hp, reference_weight _ _ _ _ hpos, add_comm (Ideal.div (Ideal.exp ((scoreR x r t (ixOf _ h0) : EReal) - M)) _), reference_weight _ _ _ _ hpos]
end

/-! ## The kernel -/

section
open Cert.KernelIdeal Cert.RingIdeal
variable (m : (ℓ : Loc nD τ sig) → Buf (Elt Ideal) ℓ) (ρ : Dev nD → PrngReg)

/-- THE KERNEL'S RESULT at token `t`, where every device holds the same activations, router and choices, and its own eight of the
    experts' matrices `w`. -/
theorem kernel_apply (x : FVec Ideal S2048x512 .bf16) (r : FVec Ideal S512x128 .bf16) (i : IVec S2048x2 32)
    (w : FVec Ideal Cert.ReferenceIdeal.S128x512x1024 .bf16)
    (ex : ∀ c, xV m ρ c = x) (er : ∀ c, rV m ρ c = r) (ei : ∀ c, iV m ρ c = i)
    (ew : ∀ (c : Fin 16) (l : Fin 8) (d : Fin 512) (f : Fin 1024), eV m ρ c (ix3 l d f) = w (ix3 ⟨8 * c.val + l.val, by omega⟩ d f))
    (t : Fin 2048) (f : Fin 1024)
    (hx : ∀ d : Fin 512, Finite (x (ix2 t d))) (hr : ∀ (d : Fin 512) (e : Fin 128), Finite (r (ix2 d e)))
    (h0 : (i (ix2 t 0)).toNat < 128) (h1 : (i (ix2 t 1)).toNat < 128) :
    oV m ρ (ix2 t f)
      = ((share (scoreR x r t (ixOf _ h0)) (scoreR x r t (ixOf _ h1)) : ℝ) : EReal) * (∑ d : Fin 512, x (ix2 t d) * w (ix3 (ixOf _ h0) d f))
        + ((share (scoreR x r t (ixOf _ h1)) (scoreR x r t (ixOf _ h0)) : ℝ) : EReal) * (∑ d : Fin 512, x (ix2 t d) * w (ix3 (ixOf _ h1) d f)) := by
  rw [out_apply, ← sum_experts 128 512 (fun d => x (ix2 t d)) (fun e d => w (ix3 e d f)) (ixOf _ h0) (ixOf _ h1) _ _ (share_nonneg _ _) (share_nonneg _ _),
    ← sum_devices]
  refine Finset.sum_congr rfl fun c _ => ?_
  rw [acc_apply]
  refine Finset.sum_congr rfl fun l _ => Finset.sum_congr rfl fun d _ => ?_
  rw [wts_apply m ρ c t l (by rw [ex]; exact hx) (by rw [er]; exact hr) (by rw [ei]; exact h0) (by rw [ei]; exact h1), ew]
  simp only [ex, er, ei]
end

/-! ## The precondition, read -/

/-- The bound the precondition compares with is infinity. -/
theorem topBf16 : Ideal.ofBits FTy.bf16 32640#16 = ⊤ := by simp [Ideal.ofBits, Ideal.ieee]

/-- A number whose absolute value is below infinity is no infinity. -/
theorem finite_of_abs (a : EReal) (h : Ideal.cmp .olt (max a (-a)) ⊤ = 1#1) : Finite a := by
  have h' : max a (-a) < ⊤ := by
    by_contra hc
    rw [show Ideal.cmp .olt (max a (-a)) ⊤ = 0#1 by simp [Ideal.cmp, hc]] at h
    exact absurd h (by decide)
  refine ⟨fun e => ?_, fun e => ?_⟩
  · rw [e] at h'; exact absurd (lt_of_le_of_lt (le_max_left _ _) h') (lt_irrefl _)
  · rw [e, EReal.neg_bot] at h'; exact absurd (lt_of_le_of_lt (le_max_right _ _) h') (lt_irrefl _)

/-- A word read signed between 0 and 128 is an expert's number. -/
theorem choice_of_bits (b : BitVec 32) (h : IntOp.andi (IntOp.cmpi .sge b 0#32) (IntOp.cmpi .slt b 128#32) = 1#1) : b.toNat < 128 := by
  have h2 := IntOp.andi_eq_one.mp h
  have g0 := IntOp.cmpi_sge.mp h2.1
  have g1 := IntOp.cmpi_slt.mp h2.2
  rw [show (0#32 : BitVec 32).toInt = 0 by decide] at g0
  rw [show (128#32 : BitVec 32).toInt = 128 by decide] at g1
  rw [BitVec.toInt_eq_toNat_cond] at g0 g1
  have := b.isLt
  split at g0 <;> omega

instance preKernel : Cert.Pre_scores_are_numbers_KernelIdeal.Facts := ⟨by decide, by decide, by decide⟩
instance preReference : Cert.Pre_scores_are_numbers_ReferenceIdeal.Facts := ⟨by decide, by decide, by decide⟩

section
open Cert.KernelIdeal Cert.RingIdeal

variable (x : FVec Ideal S2048x512 .bf16) (r : FVec Ideal S512x128 .bf16) (i : IVec S2048x2 32) (e : FVec Ideal S8x512x1024 .bf16)

theorem pre_x (h : (Cert.Pre_scores_are_numbers_KernelIdeal.fn x r i e).1 = fun _ => 1#1) (t : Fin 2048) (d : Fin 512) : Finite (x (ix2 t d)) := by
  have h' : Ideal.cmp .olt (max (x (ix2 t d)) (-(x (ix2 t d)))) (Ideal.ofBits FTy.bf16 32640#16) = 1#1 := congrFun h (ix2 t d)
  rw [topBf16] at h'
  exact finite_of_abs _ h'
theorem pre_r (h : (Cert.Pre_scores_are_numbers_KernelIdeal.fn x r i e).2.1 = fun _ => 1#1) (d : Fin 512) (n : Fin 128) : Finite (r (ix2 d n)) := by
  have h' : Ideal.cmp .olt (max (r (ix2 d n)) (-(r (ix2 d n)))) (Ideal.ofBits FTy.bf16 32640#16) = 1#1 := congrFun h (ix2 d n)
  rw [topBf16] at h'
  exact finite_of_abs _ h'
theorem pre_i (h : (Cert.Pre_scores_are_numbers_KernelIdeal.fn x r i e).2.2 = fun _ => 1#1) (t : Fin 2048) (z : Fin 2) : (i (ix2 t z)).toNat < 128 :=
  choice_of_bits _ (congrFun h (ix2 t z))
end

/-! ## The two results -/

/-- THE KERNEL'S RESULT IS THE REFERENCE'S, from memories that agree. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_scores_are_numbers_KernelIdeal m)
    (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) :
    Cert.RingIdeal.outAt m g = Cert.ReferenceIdeal.Value.res_main_v71 m' 0 := by
  obtain ⟨p0, p1, p2⟩ := hp (0 : Fin 16)
  have q0 := (hm (0 : Fin 16)).1
  have q1 := (hm (0 : Fin 16)).2.1
  have q2 := (hm (0 : Fin 16)).2.2.1
  rw [q0, q1, q2] at p0 p1 p2
  have fx := pre_x _ _ _ _ p0
  have fr := pre_r _ _ _ _ p1
  have fi := pre_i _ _ _ _ p2
  rw [Ref.res_eq]
  refine funext fun (j : Cert.KernelIdeal.S2048x1024.Idx) => ?_
  obtain ⟨t, f, rfl⟩ : ∃ (t : Fin 2048) (f : Fin 1024), j = ix2 t f := ⟨j 0, j 1, by
    funext a
    match a with
    | ⟨0, _⟩ => rfl
    | ⟨1, _⟩ => rfl⟩
  refine (kernel_apply m g _ _ _ (m' (((0 : Dev Cert.ReferenceIdeal.nD).tc : Thread Cert.ReferenceIdeal.nD Cert.ReferenceIdeal.τ).loc Cert.ReferenceIdeal.main_arg3))
    (fun c => (xStg_eq m g c).trans (hm c).1) (fun c => (rwStg_eq m g c).trans (hm c).2.1) (fun c => (idxStg_eq m g c).trans (hm c).2.2.1) ?_ t f
    (fx t) fr (fi t 0) (fi t 1)).trans (reference_apply _ _ _ _ t f (fx t) fr (fi t 0) (fi t 1)).symm
  intro c l d n
  refine (congrFun ((wStg_eq m g c).trans (hm c).2.2.2) (ix3 l d n)).trans ?_
  rw [Layout.block_apply]
  refine congrArg (m' (((0 : Dev Cert.ReferenceIdeal.nD).tc : Thread Cert.ReferenceIdeal.nD Cert.ReferenceIdeal.τ).loc Cert.ReferenceIdeal.main_arg3)) (funext fun a => Fin.ext ?_)
  match a with
  | ⟨0, _⟩ => show c.val * 8 + l.val = 8 * c.val + l.val; omega
  | ⟨1, _⟩ => rfl
  | ⟨2, _⟩ => rfl

end Cert.RingValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Launch
public import proofs.«01_k».proof.Proof.Word.Launch
public import proofs.«01_k».proof.Proof.Value.Equal
public import Idealize.ShloMosaic.Adequacy
public import Idealize.ShloMosaic.Init

@[expose] public section

noncomputable section

namespace Cert.Proof

open Idealize.ShloMosaic Idealize.SL.Sem

/-- The kernel over words runs, keeps its arguments and leaves every counter at zero (Proof/Word/Launch.lean `run_all`). -/
theorem frame_kernel : Cert.quiescent_Kernel := fun m ρ _ =>
  (θ_run Cert.Kernel.defs _ _).mono (fun _ h => ⟨fun c => (h.1 c).2, h.2⟩) (Cert.Ring.run_all (F := Bits) m ρ)

/-- The same of the kernel over extended reals (Proof/Ideal/Launch.lean `run_all`). -/
theorem frame_kernelIdeal : Cert.quiescent_KernelIdeal := fun m ρ _ =>
  (θ_run Cert.KernelIdeal.defs _ _).mono (fun _ h => ⟨fun c => (h.1 c).2, h.2⟩) (Cert.RingIdeal.run_all (F := Ideal) m ρ)

/-- The reference is a straight-line host program that declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the two frames are the same runs. -/
theorem frame_kernelIdeal_pre : Cert.quiescent_KernelIdeal_pre_scores_are_numbers_KernelIdeal := fun m ρ _ => frame_kernelIdeal m ρ trivial
theorem frame_referenceIdeal_pre : Cert.quiescent_ReferenceIdeal_pre_scores_are_numbers_ReferenceIdeal := fun m ρ _ => frame_referenceIdeal m ρ trivial

/-- The kernel's result on every device is the reference's (Proof/Value/Equal.lean `result_eq`). -/
theorem algebraic : Cert.algebraic_KernelIdeal_ReferenceIdeal_pre_scores_are_numbers_KernelIdeal := fun m g m' g' hp hm =>
  ⟨Cert.ReferenceIdeal.Value.res_main_v71 m' 0,
    (θ_run Cert.KernelIdeal.defs _ _).mono (fun _ h c => ⟨(h.1 c).1.trans (Cert.RingValue.result_eq m g m' hp hm), (h.1 c).2⟩)
      (Cert.RingIdeal.run_all (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.RingValue.preKernel, Cert.RingValue.preReference,
    frame_kernel, frame_kernelIdeal, frame_kernelIdeal_pre, frame_referenceIdeal, frame_referenceIdeal_pre, trivial, algebraic⟩

end Cert.Proof

end
